-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_told_apart [hKernelIdeal : Cert.KernelIdeal.Facts] [hReferenceIdeal : Cert.ReferenceIdeal.Facts] [hOn_told_apart : Cert.On_told_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![160000]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v13) i = v0 c i)
          ∧ (∀ i : (⟨1, ![160000]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v15) i = v1 c i)
          ∧ (∀ i : (⟨1, ![10000]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_arg1) i = v2 c i)
          ∧ (∀ i : (⟨2, ![10000, 16]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.KernelIdeal.nD Cert.KernelIdeal.τ).loc Cert.KernelIdeal.main_v16) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![160000]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v13) i = v0 c i)
          ∧ (∀ i : (⟨1, ![160000]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v16) i = v1 c i)
          ∧ (∀ i : (⟨1, ![10000]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_arg1) i = v2 c i)
          ∧ (∀ i : (⟨2, ![10000, 16]⟩ : Shape).Idx, (Cert.On_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.ReferenceIdeal.nD Cert.ReferenceIdeal.τ).loc Cert.ReferenceIdeal.main_v20) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_told_apart : Cert.On_told_apart.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_told_apart (hKernelIdeal := hKernelIdeal) (hReferenceIdeal := hReferenceIdeal) (hOn_told_apart := hOn_told_apart)
-- ==== On_told_apart.lean ====
abbrev S10000x3 : Shape := ⟨2, ![10000, 3]⟩
abbrev S10000 : Shape := ⟨1, ![10000]⟩
abbrev S_ : Shape := ⟨0, ![]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x17 : Shape := ⟨2, ![10000, 17]⟩
abbrev S10000x16 : Shape := ⟨2, ![10000, 16]⟩
abbrev S10000x15 : Shape := ⟨2, ![10000, 15]⟩
abbrev S160000 : Shape := ⟨1, ![160000]⟩

class Facts : Prop where
  reducesTo_S10000x3_S10000_d1 : S10000x3.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x3_S3x10000_1_0 : S10000x3.Transposes [1, 0] S3x10000
  bcast_S_S10000x10000 : S_.BroadcastsInDim S10000x10000 (![] : Fin 0 → Fin S10000x10000.rank)
  sliceFits_S10000x10000_S10000x17 : S10000x10000.Slices (fun _ => 0) S10000x17
  slices_S10000x17_S10000x16_0_0 : S10000x17.Slices ![0, 0] S10000x16
  slices_S10000x17_S10000x16_0_1 : S10000x17.Slices ![0, 1] S10000x16
  bcast_S_S10000x1 : S_.BroadcastsInDim S10000x1 (![] : Fin 0 → Fin S10000x1.rank)
  slices_S10000x16_S10000x15_0_0 : S10000x16.Slices ![0, 0] S10000x15
  concatenates_S10000x1_S10000x15_S10000x16_d1 : Shape.Concatenates [S10000x1, S10000x15] S10000x16 1
  shapeCasts_S10000x16_S160000 : S10000x16.ShapeCasts S160000
  bcast_S_S160000 : S_.BroadcastsInDim S160000 (![] : Fin 0 → Fin S160000.rank)
  bcast_S_S10000 : S_.BroadcastsInDim S10000 (![] : Fin 0 → Fin S10000.rank)
  bcast_S_S10000x16 : S_.BroadcastsInDim S10000x16 (![] : Fin 0 → Fin S10000x16.rank)
  dot_S10000x3_S3x10000_S10000x10000_1_0_0_1_n_n_wf : DotDims.WF S10000x3 S3x10000 S10000x10000 [1] [0] [0] [1] [] []

variable [Facts]

def dot_S10000x3_S3x10000_S10000x10000_1_0_0_1_n_n : DotDims S10000x3 S3x10000 S10000x10000 where
  lhsContracting := [1]
  rhsContracting := [0]
  lhsNonContracting := [0]
  rhsNonContracting := [1]
  lhsBatch := []
  rhsBatch := []
  wf := dot_S10000x3_S3x10000_S10000x10000_1_0_0_1_n_n_wf
def fn_part1 {F : FTy → Type} [FloatOps F] (main_v15 : IVec S10000x16 1) (main_v18 : IVec S10000x16 1) : IVec S160000 1 × IVec S160000 1 × IVec S10000 1 × IVec S10000x16 1 :=
  let main_v19 : IVec S10000x16 1 := andi main_v15 main_v18
  let main_v20 : IVec S160000 1 := shapeCast S160000 main_v19 shapeCasts_S10000x16_S160000
  let main_c_1 : IVec S_ 1 := constantI S_ 1 1#1
  let main_v21 : IVec S160000 1 := broadcastInDim S160000 ![] bcast_S_S160000 main_c_1
  let main_c_2 : IVec S_ 1 := constantI S_ 1 1#1
  let main_v22 : IVec S10000 1 := broadcastInDim S10000 ![] bcast_S_S10000 main_c_2
  let main_c_3 : IVec S_ 1 := constantI S_ 1 1#1
  let main_v23 : IVec S10000x16 1 := broadcastInDim S10000x16 ![] bcast_S_S10000x16 main_c_3
  (main_v20, main_v21, main_v22, main_v23)

def fn {F : FTy → Type} [FloatOps F] (main_arg0 : FVec F S10000x3 .f32) (main_arg1 : IVec S10000 32) : IVec S160000 1 × IVec S160000 1 × IVec S10000 1 × IVec S10000x16 1 :=
  let main_v0 : FVec F S10000x3 .f32 := mulf main_arg0 main_arg0
  let main_cst : FVec F S_ .f32 := constant S_ .f32 0x00000000#32
  let main_v1 : FVec F S10000 .f32 := (fun x v => Host.reduceAdd x v reducesTo_S10000x3_S10000_d1 h_S_) main_v0 main_cst
  let main_v2 : FVec F S10000x1 .f32 := broadcastInDim S10000x1 ![0] bcast_S10000_S10000x1_0 main_v1
  let main_v3 : FVec F S1x10000 .f32 := broadcastInDim S1x10000 ![1] bcast_S10000_S1x10000_1 main_v1
  let main_v4 : FVec F S10000x10000 .f32 := broadcastInDim S10000x10000 ![0, 1] bcast_S10000x1_S10000x10000_0_1 main_v2
  let main_v5 : FVec F S10000x10000 .f32 := broadcastInDim S10000x10000 ![0, 1] bcast_S1x10000_S10000x10000_0_1 main_v3
  let main_v6 : FVec F S10000x10000 .f32 := addf main_v4 main_v5
  let main_v7 : FVec F S3x10000 .f32 := (transpose S3x10000 [1, 0] · transposes_S10000x3_S3x10000_1_0) main_arg0
  let main_v8 : FVec F S10000x10000 .f32 := (fun l r => Host.dotGeneral dot_S10000x3_S3x10000_S10000x10000_1_0_0_1_n_n none l r) main_arg0 main_v7
  let main_cst_0 : FVec F S_ .f32 := constant S_ .f32 0x40000000#32
  let main_v9 : FVec F S10000x10000 .f32 := broadcastInDim S10000x10000 ![] bcast_S_S10000x10000 main_cst_0
  let main_v10 : FVec F S10000x10000 .f32 := mulf main_v9 main_v8
  let main_v11 : FVec F S10000x10000 .f32 := subf main_v6 main_v10
  let main_v12 : FVec F S10000x10000 .f32 := Host.negf main_v11
  let main_values : FVec F S10000x17 .f32 := (fun x => (Host.topK S10000x17 1 (FloatOps.cmpfTotal .gt) x sliceFits_S10000x10000_S10000x17).1) main_v12
  let main_indices : IVec S10000x17 32 := (fun x => (Host.topK S10000x17 1 (FloatOps.cmpfTotal .gt) x sliceFits_S10000x10000_S10000x17).2) main_v12
  let main_v13 : FVec F S10000x16 .f32 := (extractStridedSlice S10000x16 ![0, 0] · slices_S10000x17_S10000x16_0_0) main_values
  let main_v14 : FVec F S10000x16 .f32 := (extractStridedSlice S10000x16 ![0, 1] · slices_S10000x17_S10000x16_0_1) main_values
  let main_v15 : IVec S10000x16 1 := cmpf .ogt main_v13 main_v14
  let main_c : IVec S_ 1 := constantI S_ 1 1#1
  let main_v16 : IVec S10000x1 1 := broadcastInDim S10000x1 ![] bcast_S_S10000x1 main_c
  let main_v17 : IVec S10000x15 1 := (extractStridedSlice S10000x15 ![0, 0] · slices_S10000x16_S10000x15_0_0) main_v15
  let main_v18 : IVec S10000x16 1 := (fun a b => concatenate S10000x16 1 [⟨S10000x1, a⟩, ⟨S10000x15, b⟩] concatenates_S10000x1_S10000x15_S10000x16_d1) main_v16 main_v17
  fn_part1 (F := F) main_v15 main_v18
-- ==== Kernel.lean ====
abbrev S10000x3 : Shape := ⟨2, ![10000, 3]⟩
abbrev S10000 : Shape := ⟨1, ![10000]⟩
abbrev S_ : Shape := ⟨0, ![]⟩
abbrev S10240x128 : Shape := ⟨2, ![10240, 128]⟩
abbrev S1 : Shape := ⟨1, ![1]⟩
abbrev S2 : Shape := ⟨1, ![2]⟩
abbrev S128x10240 : Shape := ⟨2, ![128, 10240]⟩
abbrev S3x10000 : Shape := ⟨2, ![3, 10000]⟩
abbrev S10240x16 : Shape := ⟨2, ![10240, 16]⟩
abbrev S256x128 : Shape := ⟨2, ![256, 128]⟩
abbrev S256x16 : Shape := ⟨2, ![256, 16]⟩
abbrev S256x1 : Shape := ⟨2, ![256, 1]⟩
abbrev S1x10240 : Shape := ⟨2, ![1, 10240]⟩
abbrev S256x10240 : Shape := ⟨2, ![256, 10240]⟩
abbrev S256 : Shape := ⟨1, ![256]⟩
abbrev S10000x16 : Shape := ⟨2, ![10000, 16]⟩
abbrev S160000 : Shape := ⟨1, ![160000]⟩

abbrev nBuf : Space → Nat
  | .hbm => 27
  | .vmem => 9
  | .smem => 0
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S_, .f32⟩
  | .hbm, ⟨3, _⟩ => ⟨S10240x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S10240x128, .f32⟩
  | .hbm, ⟨10, _⟩ => ⟨S_, .f32⟩
  | .hbm, ⟨11, _⟩ => ⟨S128x10240, .f32⟩
  | .hbm, ⟨12, _⟩ => ⟨S3x10000, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S128x10240, .f32⟩
  | .hbm, ⟨19, _⟩ => ⟨S10240x16, .i32⟩
  | .hbm, ⟨20, _⟩ => ⟨S10240x16, .i32⟩
  | .hbm, ⟨21, _⟩ => ⟨S10240x16, .f32⟩
  | .hbm, ⟨22, _⟩ => ⟨S10000x16, .i32⟩
  | .hbm, ⟨23, _⟩ => ⟨S160000, .i32⟩
  | .hbm, ⟨24, _⟩ => ⟨S10000x16, .i32⟩
  | .hbm, ⟨25, _⟩ => ⟨S160000, .i32⟩
  | .hbm, ⟨26, _⟩ => ⟨S10000x16, .f32⟩
  | .local _ .vmem, ⟨0, _⟩ => ⟨S256x128, .f32⟩
  | .local _ .vmem, ⟨1, _⟩ => ⟨S256x128, .f32⟩
  | .local _ .vmem, ⟨2, _⟩ => ⟨S128x10240, .f32⟩
  | .local _ .vmem, ⟨3, _⟩ => ⟨S256x16, .i32⟩
  | .local _ .vmem, ⟨4, _⟩ => ⟨S256x16, .i32⟩
  | .local _ .vmem, ⟨5, _⟩ => ⟨S256x16, .i32⟩
  | .local _ .vmem, ⟨6, _⟩ => ⟨S256x16, .i32⟩
  | .local _ .vmem, ⟨7, _⟩ => ⟨S256x16, .f32⟩
  | .local _ .vmem, ⟨8, _⟩ => ⟨S256x16, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![40], ![false]⟩

def k0_mult1 (i : grid0.Coords) : BitVec 32 :=
  let arg0 : BitVec 32 := BitVec.ofNat 32 (i 0).val
  let c0_i32 : BitVec 32 := 0#32
  let v27 : BitVec 32 := Scalar.muli arg0 c0_i32
  v27
def k0_off1 (i : grid0.Coords) : Fin 2 → Nat :=
  let arg0 : BitVec 32 := BitVec.ofNat 32 (i 0).val
  let c0_i32 : BitVec 32 := 0#32
  let v27 : BitVec 32 := Scalar.muli arg0 c0_i32
  let v28 : BitVec 32 := v27
  let v29 : Index := Scalar.indexCast v28
  let c0_9 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000x3 : Shape := ⟨2, ![10000, 3]⟩
abbrev S10000 : Shape := ⟨1, ![10000]⟩
abbrev S_ : Shape := ⟨0, ![]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x16 : Shape := ⟨2, ![10000, 16]⟩
abbrev S160000 : Shape := ⟨1, ![160000]⟩

abbrev nBuf : Space → Nat
  | .hbm => 28
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S10000x3, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S1x10000, .f32⟩
  | .hbm, ⟨7, _⟩ => ⟨S10000x10000, .f32⟩
  | .hbm, ⟨8, _⟩ => ⟨S10000x10000, .f32⟩
  | .hbm, ⟨9, _⟩ => ⟨S10000x10000, .f32⟩
  | .hbm, ⟨10, _⟩ => ⟨S3x10000, .f32⟩
  | .hbm, ⟨11, _⟩ => ⟨S10000x10000, .f32⟩
  | .hbm, ⟨12, _⟩ => ⟨S_, .f32⟩
  | .hbm, ⟨13, _⟩ => ⟨S10000x10000, .f32⟩
  | .hbm, ⟨14, _⟩ => ⟨S10000x10000, .f32⟩
  | .hbm, ⟨15, _⟩ => ⟨S10000x10000, .f32⟩
  | .hbm, ⟨16, _⟩ => ⟨S10000x10000, .f32⟩
  | .hbm, ⟨17, _⟩ => ⟨S10000x16, .f32⟩
  | .hbm, ⟨18, _⟩ => ⟨S10000x16, .i32⟩
  | .hbm, ⟨19, _⟩ => ⟨S160000, .i32⟩
  | .hbm, ⟨20, _⟩ => ⟨S10000, .i32⟩
  | .hbm, ⟨21, _⟩ => ⟨S10000x16, .i32⟩
  | .hbm, ⟨22, _⟩ => ⟨S160000, .i32⟩
  | .hbm, ⟨23, _⟩ => ⟨S10000x16, .f32⟩
  | .hbm, ⟨24, _⟩ => ⟨S_, .f32⟩
  | .hbm, ⟨25, _⟩ => ⟨S10000x16, .f32⟩
  | .hbm, ⟨26, _⟩ => ⟨S10000x16, .f32⟩
  | .hbm, ⟨27, _⟩ => ⟨S10000x16, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_values : Ref sig .tc := ⟨.hbm, 17, rfl⟩
abbrev main_indices : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Knn.Tile.lean ====
/- What one grid point of the kernel computes, written once as functions of whole tiles: the sorting network over the
   chunks, the merges that keep the sixteen least of each lane, and the sixteen rounds that take the least of a row. -/
module

public import proofs.«01_k».proof.Proof.Gen.KernelIdeal
public import Idealize.ShloMosaic.Lib.SortNet.Keyed

@[expose] public section

noncomputable section

namespace Cert.Knn

open Idealize.ShloMosaic Idealize.ShloMosaic.SortNet Cert.KernelIdeal Cert.KernelIdeal.Gen

variable {F : FTy → Type} [FloatOps F]

/-- The exchange of the positions `i` and `j`. -/
abbrev ex (i j : Fin 16) (h : i ≠ j := by decide) : Cmpx 16 := ⟨i, j, h⟩

/-- Sorts positions 0 to 7. -/
def sortLow : Network 16 :=
  [ex 0 1, ex 2 3, ex 0 2, ex 1 3, ex 1 2, ex 4 5, ex 6 7, ex 4 6, ex 5 7, ex 5 6,
   ex 0 4, ex 2 6, ex 2 4, ex 1 5, ex 3 7, ex 3 5, ex 1 2, ex 3 4, ex 5 6]

/-- Sorts positions 8 to 15. -/
def sortHigh : Network 16 :=
  [ex 8 9, ex 10 11, ex 8 10, ex 9 11, ex 9 10, ex 12 13, ex 14 15, ex 12 14, ex 13 15, ex 13 14,
   ex 8 12, ex 10 14, ex 10 12, ex 9 13, ex 11 15, ex 11 13, ex 9 10, ex 11 12, ex 13 14]

/-- Merges two sorted halves. -/
def mergeHalves : Network 16 :=
  [ex 0 8, ex 4 12, ex 4 8, ex 2 10, ex 6 14, ex 6 10, ex 2 4, ex 6 8, ex 10 12,
   ex 1 9, ex 5 13, ex 5 9, ex 3 11, ex 7 15, ex 7 11, ex 3 5, ex 7 9, ex 11 13,
   ex 1 2, ex 3 4, ex 5 6, ex 7 8, ex 9 10, ex 11 12, ex 13 14]

/-- The network that sorts a batch of sixteen chunks. -/
def sort16 : Network 16 := sortLow ++ sortHigh ++ mergeHalves

/-- The half-cleaners that sort what a merge keeps. -/
def clean16 : Network 16 :=
  [ex 0 8, ex 1 9, ex 2 10, ex 3 11, ex 4 12, ex 5 13, ex 6 14, ex 7 15,
   ex 0 4, ex 1 5, ex 2 6, ex 3 7, ex 8 12, ex 9 13, ex 10 14, ex 11 15,
   ex 0 2, ex 1 3, ex 4 6, ex 5 7, ex 8 10, ex 9 11, ex 12 14, ex 13 15,
   ex 0 1, ex 2 3, ex 4 5, ex 6 7, ex 8 9, ex 10 11, ex 12 13, ex 14 15]

variable (F) in
/-- A tile of values with the tile of their numbers. -/
abbrev Pair : Type := FVec F S256x128 .f32 × IVec S256x128 32

/-- One exchange on tiles: at each place the lesser value, with its number, goes to `lo`. -/
def step (e : Cmpx 16) (s : Fin 16 → Pair F) : Fin 16 → Pair F := fun k =>
  if k = e.lo then
    (select (cmpf .ole (s e.lo).1 (s e.hi).1) (s e.lo).1 (s e.hi).1, select (cmpf .ole (s e.lo).1 (s e.hi).1) (s e.lo).2 (s e.hi).2)
  else if k = e.hi then
    (select (cmpf .ole (s e.lo).1 (s e.hi).1) (s e.hi).1 (s e.lo).1, select (cmpf .ole (s e.lo).1 (s e.hi).1) (s e.hi).2 (s e.lo).2)
  else s k

/-- A network on tiles. -/
def run : Network 16 → (Fin 16 → Pair F) → Fin 16 → Pair F
  | [], s => s
  | e :: N, s => run N (step e s)

/-- Chunk `c` lies within the row of distances. -/
theorem chunk_slices (c : Fin 80) : S256x10240.Slices ![0, c.val * 128] S256x128 := by
  refine ⟨rfl, fun a => ?_⟩
  have := c.isLt
  match a with
  | ⟨0, _⟩ => show 0 + 256 ≤ 256; omega
  | ⟨1, _⟩ => show c.val * 128 + 128 ≤ 10240; omega

/-- Chunk `c` of the distances, with its number. -/
def chunk (d : FVec F S256x10240 .f32) (c : Fin 80) : Pair F :=
  (extractStridedSlice S256x128 ![0, c.val * 128] d (chunk_slices c), broadcast S256x128 (BitVec.ofNat 32 c.val))

/-- Batch `g`, sorted. -/
def batch (d : FVec F S256x10240 .f32) (g : Fin 5) : Fin 16 → Pair F :=
  run sort16 fun j => chunk d ⟨g.val * 16 + j.val, by omega⟩

/-- The sixteen least of two sorted lists, in some order: the lesser of the `k`-th of one and the `k`-th last of the other. -/
def least (r b : Fin 16 → Pair F) : Fin 16 → Pair F := fun k =>
  (select (cmpf .ole (r k).1 (b k.rev).1) (r k).1 (b k.rev).1, select (cmpf .ole (r k).1 (b k.rev).1) (r k).2 (b k.rev).2)

/-- The sixteen least of two sorted lists, sorted. -/
def merge (r b : Fin 16 → Pair F) : Fin 16 → Pair F := run clean16 (least r b)

/-- The sixteen least of each lane with the numbers of their chunks, sorted. -/
def kept (d : FVec F S256x10240 .f32) : Fin 16 → Pair F :=
  merge (merge (merge (merge (batch d 0) (batch d 1)) (batch d 2)) (batch d 3)) (batch d 4)

/-- The same with the numbers of the columns. -/
def start (d : FVec F S256x10240 .f32) : Fin 16 → Pair F := fun k =>
  ((kept d k).1, addi (muli (kept d k).2 (broadcast S256x128 128#32)) (iota .tc S256x128 32 [1] iota_S256x128_d1_w32))

/-- The least value at the head of a row. -/
def rowMin (s : Fin 16 → Pair F) : FVec F S256x1 .f32 :=
  shapeCast S256x1 (multiReduction .minimumf [1] S256 (s 0).1 0x7F800000#32 reduces_S256x128_S256 (.inl rfl) rfl) shapeCasts_S256_S256x1

/-- The lanes whose head is the least. -/
def elig (s : Fin 16 → Pair F) : IVec S256x128 1 :=
  cmpf .oeq (s 0).1 (broadcastTo S256x128 (rowMin s) broadcasts_S256x1_S256x128)

/-- The lowest number among them. -/
def rowNum (s : Fin 16 → Pair F) : IVec S256x1 32 :=
  shapeCast S256x1 (multiReductionI .minsi [1] S256 (select (elig s) (s 0).2 (broadcast S256x128 10240#32)) 2147483647#32 reduces_S256x128_S256 rfl) shapeCasts_S256_S256x1

/-- The lane it stands in. -/
def won (s : Fin 16 → Pair F) : IVec S256x128 1 :=
  andi (elig s) (cmpi .eq (s 0).2 (broadcastTo S256x128 (rowNum s) broadcasts_S256x1_S256x128))

/-- That lane's list moves up. -/
def shift (s : Fin 16 → Pair F) : Fin 16 → Pair F := fun k =>
  if h : k.val + 1 < 16 then
    (select (won s) (s ⟨k.val + 1, h⟩).1 (s k).1, select (won s) (s ⟨k.val + 1, h⟩).2 (s k).2)
  else s k

/-- The lists before round `r`. -/
def round (d : FVec F S256x10240 .f32) : Nat → Fin 16 → Pair F
  | 0 => start d
  | r + 1 => shift (round d r)

/-- The distances of a tile, before the root. -/
def valTile (d : FVec F S256x10240 .f32) : FVec F S256x16 .f32 :=
  concatenate S256x16 1 (List.ofFn fun r : Fin 16 => ⟨S256x1, rowMin (round d r.val)⟩)
    concatenates_S256x1_S256x1_S256x1_S256x1_S256x1_S256x1_S256x1_S256x1_S256x1_S256x1_S256x1_S256x1_S256x1_S256x1_S256x1_S256x1_S256x16_d1

/-- The distances of a tile. -/
def distTile (d : FVec F S256x10240 .f32) : FVec F S256x16 .f32 :=
  sqrt (maximumf (valTile d) (broadcast S256x16 (Scalar.ofBits .f32 0x00000000#32)))

/-- The columns of a tile. -/
def numTile (d : FVec F S256x10240 .f32) : IVec S256x16 32 :=
  concatenate S256x16 1 (List.ofFn fun r : Fin 16 => ⟨S256x1, rowNum (round d r.val)⟩)
    concatenates_S256x1_S256x1_S256x1_S256x1_S256x1_S256x1_S256x1_S256x1_S256x1_S256x1_S256x1_S256x1_S256x1_S256x1_S256x1_S256x1_S256x16_d1

end Cert.Knn

end
-- ==== Proof.Knn.Pieces.lean ====
/- The body's three writes as functions of its loads, and the blocks a grid point leaves as functions of its two input blocks. -/
module

public import proofs.«01_k».proof.Proof.Gen.KernelIdeal.Frame
public import proofs.«01_k».proof.Proof.Knn.Tile
public import Idealize.ShloMosaic.Lib.Pointwise
@[expose] public section
noncomputable section
namespace Cert.Knn
open Idealize.ShloMosaic Idealize.ShloMosaic.TcCoe Idealize.ShloMosaic.Tactic Cert.KernelIdeal Cert.KernelIdeal.Gen
variable {F : FTy → Type} [FloatOps F]
/-- The row of distances, from what the body loads. -/
def rowOf (v0 v2 v4 : Vec F S256x1 .f32) (v6 v8 v10 : Vec F S1x10240 .f32) (v30 : Vec F S256x128 .f32) (v32 : Vec F S128x10240 .f32) : FVec F S256x10240 .f32 :=
  k0_pay5 (k0_pay2 v30 v32) (k0_pay3 v0 v2 v4 v6 v8 v10) k0_pay4

/-- The row of distances, from the two blocks. -/
def loaded (i : grid0.Coords) (arg1 : Memref sig .tc .vmem S256x128 .f32) (harg1 : arg1.IsWhole) (arg2 : Memref sig .tc .vmem S128x10240 .f32) (harg2 : arg2.IsWhole)
    (x0 : Vec F S256x128 .f32) (x1 : Vec F S128x10240 .f32) : FVec F S256x10240 .f32 :=
  rowOf (View.readAt (Elt F) arg1.view (Rect.unit (s := S256x128) ![0, 0] S256x1.size inb_S256x128_S256x1_0_0).toLoadRect (harg1.unread x0))
    (View.readAt (Elt F) arg1.view (Rect.unit (s := S256x128) ![0, 1] S256x1.size inb_S256x128_S256x1_0_1).toLoadRect (harg1.unread x0))
    (View.readAt (Elt F) arg1.view (Rect.unit (s := S256x128) ![0, 2] S256x1.size inb_S256x128_S256x1_0_2).toLoadRect (harg1.unread x0))
    (View.readAt (Elt F) arg2.view (Rect.unit (s := S128x10240) ![0, 0] S1x10240.size inb_S128x10240_S1x10240_0_0).toLoadRect (harg2.unread x1))
    (View.readAt (Elt F) arg2.view (Rect.unit (s := S128x10240) ![1, 0] S1x10240.size inb_S128x10240_S1x10240_1_0).toLoadRect (harg2.unread x1))
    (View.readAt (Elt F) arg2.view (Rect.unit (s := S128x10240) ![2, 0] S1x10240.size inb_S128x10240_S1x10240_2_0).toLoadRect (harg2.unread x1))
    (View.readAt (Elt F) arg1.view (Rect.unit (s := S256x128) (k0_off1 i) S256x128.size (k0_off1_inb i)).toLoadRect (harg1.unread x0))
    (View.readAt (Elt F) arg2.view (Rect.unit (s := S128x10240) ![0, 0] S128x10240.size inb_S128x10240_S128x10240_0_0).toLoadRect (harg2.unread x1))

set_option maxRecDepth 100000 in
set_option maxHeartbeats 4000000 in
/-- The body writes the whole block of distances in one piece, -/
theorem dist_pieces (c : Dev nD) (i : grid0.Coords) (arg1 : Memref sig .tc .vmem S256x128 .f32) (harg1 : arg1.IsWhole) (arg2 : Memref sig .tc .vmem S128x10240 .f32) (harg2 : arg2.IsWhole) (arg3 : Memref sig .tc .vmem S256x16 .i32) (harg3 : arg3.IsWhole) (arg4 : Memref sig .tc .vmem S256x16 .i32) (harg4 : arg4.IsWhole) (arg5 : Memref sig .tc .vmem S256x16 .f32) (harg5 : arg5.IsWhole)
    (x0 : Vec F S256x128 .f32) (x1 : Vec F S128x10240 .f32) :
    (kernelRun0_A c i arg1 harg1 arg2 harg2 arg3 harg3 arg4 harg4 arg5 harg5 x0 x1).2.2.1
      = [⟨Rect.unit ![0, 0] S256x16.size inb_S256x16_S256x16_0_0, distTile (loaded i arg1 harg1 arg2 harg2 x0 x1)⟩] := by
  sl_kernel_rfl

set_option maxRecDepth 100000 in
set_option maxHeartbeats 4000000 in
/-- and so the block of numbers, -/
theorem num_pieces (c : Dev nD) (i : grid0.Coords) (arg1 : Memref sig .tc .vmem S256x128 .f32) (harg1 : arg1.IsWhole) (arg2 : Memref sig .tc .vmem S128x10240 .f32) (harg2 : arg2.IsWhole) (arg3 : Memref sig .tc .vmem S256x16 .i32) (harg3 : arg3.IsWhole) (arg4 : Memref sig .tc .vmem S256x16 .i32) (harg4 : arg4.IsWhole) (arg5 : Memref sig .tc .vmem S256x16 .f32) (harg5 : arg5.IsWhole)
    (x0 : Vec F S256x128 .f32) (x1 : Vec F S128x10240 .f32) :
    (kernelRun0_A c i arg1 harg1 arg2 harg2 arg3 harg3 arg4 harg4 arg5 harg5 x0 x1).1
      = [⟨Rect.unit ![0, 0] S256x16.size inb_S256x16_S256x16_0_0, numTile (loaded i arg1 harg1 arg2 harg2 x0 x1)⟩] := by
  sl_kernel_rfl

/-- and the block of row numbers. -/
theorem row_pieces (c : Dev nD) (i : grid0.Coords) (arg1 : Memref sig .tc .vmem S256x128 .f32) (harg1 : arg1.IsWhole) (arg2 : Memref sig .tc .vmem S128x10240 .f32) (harg2 : arg2.IsWhole) (arg3 : Memref sig .tc .vmem S256x16 .i32) (harg3 : arg3.IsWhole) (arg4 : Memref sig .tc .vmem S256x16 .i32) (harg4 : arg4.IsWhole) (arg5 : Memref sig .tc .vmem S256x16 .f32) (harg5 : arg5.IsWhole)
    (x0 : Vec F S256x128 .f32) (x1 : Vec F S128x10240 .f32) :
    (kernelRun0_A c i arg1 harg1 arg2 harg2 arg3 harg3 arg4 harg4 arg5 harg5 x0 x1).2.1
      = [⟨Rect.unit ![0, 0] S256x16.size inb_S256x16_S256x16_0_0, k0_pay1 (BitVec.ofNat 32 (i 0).val)⟩] := by
  sl_kernel_rfl

/-- The offset of a whole block is zero. -/
theorem hz : (![0, 0] : Fin 2 → Nat) = fun _ => 0 := funext fun a => by fin_cases a <;> rfl

/-- A load of one column of the query block. -/
theorem ld_col (x : Vec F S256x128 .f32) (k : Nat) (hk : k < 128) (inb) :
    View.ld x (Rect.unit (s := S256x128) ![0, k] S256x1.size inb) = fun j => x (ix2 (n0 := 256) (n1 := 128) (j 0) ⟨k, hk⟩) := by
  funext j
  refine congrArg x (funext fun a => Fin.ext ?_)
  match a with
  | ⟨0, _⟩ => show 0 + 1 * (j 0).val = (j 0).val; omega
  | ⟨1, _⟩ =>
    have h : (j 1).val < 1 := (j 1).isLt
    show k + 1 * (j 1).val = k; omega

/-- A load of one row of the key block. -/
theorem ld_row (x : Vec F S128x10240 .f32) (k : Nat) (hk : k < 128) (inb) :
    View.ld x (Rect.unit (s := S128x10240) ![k, 0] S1x10240.size inb) = fun j => x (ix2 (n0 := 128) (n1 := 10240) ⟨k, hk⟩ (j 1)) := by
  funext j
  refine congrArg x (funext fun a => Fin.ext ?_)
  match a with
  | ⟨0, _⟩ =>
    have h : (j 0).val < 1 := (j 0).isLt
    show k + 1 * (j 0).val = k; omega
  | ⟨1, _⟩ => show 0 + 1 * (j 1).val = (j 1).val; omega

/-- The row of distances as a function of the two blocks. -/
def rows (x0 : Vec F S256x128 .f32) (x1 : Vec F S128x10240 .f32) : FVec F S256x10240 .f32 :=
  rowOf (fun j => x0 (ix2 (n0 := 256) (n1 := 128) (j 0) 0)) (fun j => x0 (ix2 (n0 := 256) (n1 := 128) (j 0) 1))
    (fun j => x0 (ix2 (n0 := 256) (n1 := 128) (j 0) 2)) (fun j => x1 (ix2 (n0 := 128) (n1 := 10240) 0 (j 1)))
    (fun j => x1 (ix2 (n0 := 128) (n1 := 10240) 1 (j 1))) (fun j => x1 (ix2 (n0 := 128) (n1 := 10240) 2 (j 1))) x0 x1

/-- What the body loads from two whole blocks makes this row. -/
theorem loaded_eq (i : grid0.Coords) (arg1 : Memref sig .tc .vmem S256x128 .f32) (harg1 : arg1.IsWhole) (arg2 : Memref sig .tc .vmem S128x10240 .f32) (harg2 : arg2.IsWhole)
    (x0 : Vec F S256x128 .f32) (x1 : Vec F S128x10240 .f32) : loaded i arg1 harg1 arg2 harg2 x0 x1 = rows x0 x1 := by
  unfold loaded rows
  simp only [View.readAt_eq_ld, harg1.read_unread, harg2.read_unread]
  rw [ld_col x0 0 (by omega) _, ld_col x0 1 (by omega) _, ld_col x0 2 (by omega) _, ld_row x1 0 (by omega) _, ld_row x1 1 (by omega) _,
    ld_row x1 2 (by omega) _, View.ld_unit_zero ((k0_off1_eq i).trans hz), View.ld_unit_zero hz]
  rfl

/-- What a grid point leaves in the numbers' block, -/
theorem out_num (c : Dev nD) (i : grid0.Coords) (arg1 : Memref sig .tc .vmem S256x128 .f32) (harg1 : arg1.IsWhole) (arg2 : Memref sig .tc .vmem S128x10240 .f32) (harg2 : arg2.IsWhole) (arg3 : Memref sig .tc .vmem S256x16 .i32) (harg3 : arg3.IsWhole) (arg4 : Memref sig .tc .vmem S256x16 .i32) (harg4 : arg4.IsWhole) (arg5 : Memref sig .tc .vmem S256x16 .f32) (harg5 : arg5.IsWhole)
    (x0 : Vec F S256x128 .f32) (x1 : Vec F S128x10240 .f32) :
    out0_A_2 c i arg1 harg1 arg2 harg2 arg3 harg3 arg4 harg4 arg5 harg5 x0 x1 = numTile (rows x0 x1) := by
  unfold out0_A_2
  rw [View.read_writes_junk_eq_canon, num_pieces, loaded_eq, View.canon_unit_zero hz]

/-- in the rows' block, -/
theorem out_row (c : Dev nD) (i : grid0.Coords) (arg1 : Memref sig .tc .vmem S256x128 .f32) (harg1 : arg1.IsWhole) (arg2 : Memref sig .tc .vmem S128x10240 .f32) (harg2 : arg2.IsWhole) (arg3 : Memref sig .tc .vmem S256x16 .i32) (harg3 : arg3.IsWhole) (arg4 : Memref sig .tc .vmem S256x16 .i32) (harg4 : arg4.IsWhole) (arg5 : Memref sig .tc .vmem S256x16 .f32) (harg5 : arg5.IsWhole)
    (x0 : Vec F S256x128 .f32) (x1 : Vec F S128x10240 .f32) :
    out0_A_3 c i arg1 harg1 arg2 harg2 arg3 harg3 arg4 harg4 arg5 harg5 x0 x1 = k0_pay1 (BitVec.ofNat 32 (i 0).val) := by
  unfold out0_A_3
  rw [View.read_writes_junk_eq_canon, row_pieces, View.canon_unit_zero hz]

/-- and in the distances' block. -/
theorem out_dist (c : Dev nD) (i : grid0.Coords) (arg1 : Memref sig .tc .vmem S256x128 .f32) (harg1 : arg1.IsWhole) (arg2 : Memref sig .tc .vmem S128x10240 .f32) (harg2 : arg2.IsWhole) (arg3 : Memref sig .tc .vmem S256x16 .i32) (harg3 : arg3.IsWhole) (arg4 : Memref sig .tc .vmem S256x16 .i32) (harg4 : arg4.IsWhole) (arg5 : Memref sig .tc .vmem S256x16 .f32) (harg5 : arg5.IsWhole)
    (x0 : Vec F S256x128 .f32) (x1 : Vec F S128x10240 .f32) :
    out0_A_4 c i arg1 harg1 arg2 harg2 arg3 harg3 arg4 harg4 arg5 harg5 x0 x1 = distTile (rows x0 x1) := by
  unfold out0_A_4
  rw [View.read_writes_junk_eq_canon, dist_pieces, loaded_eq, View.canon_unit_zero hz]

end Cert.Knn
end
-- ==== Proof.Knn.Pad.lean ====
/- A write of a whole array at the corner of a larger one, read at one place: the array's entry there, or the larger one's. -/
module

public import Idealize.ShloMosaic.Lib.Routing.OpsSet
public import Idealize.ShloMosaic.Lib.Routing.OpsPair
public import Idealize.ShloMosaic.Lib.Pointwise

@[expose] public section

noncomputable section

namespace Cert.Knn

open Idealize.ShloMosaic

/-- Where the index words are zero an update starts at the corner. -/
theorem start_zero {s si u : Shape} (d : ScatterDims s si u) (k : u.Idx) (idx : IVec si 32) (h : ∀ i, idx i = 0#32) (a : Fin s.rank) :
    d.start k idx a = 0 := by
  unfold ScatterDims.start
  split
  · rw [h]; rfl
  · rfl

variable {R C A B : Nat} {si : Shape} {α : Type} (d : ScatterDims ⟨2, ![R, C]⟩ si ⟨2, ![A, B]⟩)
  (h0 : ∀ k, d.window k 0 = (k 0).val) (h1 : ∀ k, d.window k 1 = (k 1).val) (idx : IVec si 32) (h : ∀ i, idx i = 0#32)
  (x0 : (⟨2, ![R, C]⟩ : Shape).Idx → α) (upd : (⟨2, ![A, B]⟩ : Shape).Idx → α)

include h0 h1 h

/-- An update with zero index words lands at its own index. -/
theorem lands (k : (⟨2, ![A, B]⟩ : Shape).Idx) (r : Fin R) (c : Fin C) :
    d.resultIdx? k idx = some (ix2 r c) ↔ (k 0).val = r.val ∧ (k 1).val = c.val := by
  rw [Routing.resultIdx?_eq_some]
  constructor
  · intro q
    have q0 := q 0
    have q1 := q 1
    rw [start_zero d k idx h, h0] at q0
    rw [start_zero d k idx h, h1] at q1
    have q0' : (0 : Int) + ((k 0).val : Int) = (r.val : Int) := q0
    have q1' : (0 : Int) + ((k 1).val : Int) = (c.val : Int) := q1
    exact ⟨by omega, by omega⟩
  · rintro ⟨q0, q1⟩ a
    rw [start_zero d k idx h, zero_add]
    match a with
    | ⟨0, _⟩ => exact congrArg Int.ofNat ((h0 k).trans q0)
    | ⟨1, _⟩ => exact congrArg Int.ofNat ((h1 k).trans q1)

/-- Inside, the written array's entry. -/
theorem pad_inside (r : Fin R) (c : Fin C) (a : Fin A) (b : Fin B) (ha : a.val = r.val) (hb : b.val = c.val) :
    Host.scatter d (fun _ b => b) x0 idx upd (ix2 r c) = upd (ix2 a b) :=
  Routing.scatter_set_hit d x0 idx upd (ix2 r c) _ (fun k hk => by
    obtain ⟨q0, q1⟩ := (lands d h0 h1 idx h k r c).mp hk
    refine congrArg upd (funext fun e => ?_)
    match e with
    | ⟨0, _⟩ => exact Fin.ext (q0.trans ha.symm)
    | ⟨1, _⟩ => exact Fin.ext (q1.trans hb.symm)) (ix2 a b) ((lands d h0 h1 idx h _ r c).mpr ⟨ha, hb⟩)

/-- Outside, what was there. -/
theorem pad_outside (r : Fin R) (c : Fin C) (hrc : A ≤ r.val ∨ B ≤ c.val) :
    Host.scatter d (fun _ b => b) x0 idx upd (ix2 r c) = x0 (ix2 r c) :=
  Routing.scatter_set_miss d x0 idx upd (ix2 r c) fun k hk => by
    obtain ⟨q0, q1⟩ := (lands d h0 h1 idx h k r c).mp hk
    have a0 : (k 0).val < A := (k 0).isLt
    have a1 : (k 1).val < B := (k 1).isLt
    omega

end Cert.Knn

end
-- ==== Proof.Knn.Arrays.lean ====
/- The arrays of the launch: what the region finds in its two inputs, and what it leaves in its three outputs, as one
   function of the inputs. -/
module

public import proofs.«01_k».proof.Proof.Knn.Pieces
public import proofs.«01_k».proof.Proof.Knn.Pad
public import Idealize.ShloMosaic.Lib.StableHlo.Run

@[expose] public section

noncomputable section

namespace Cert.Knn

open Idealize.ShloMosaic Idealize.ShloMosaic.TcCoe Idealize.ShloMosaic.StableHlo Idealize.SL.Sem Cert.KernelIdeal Cert.KernelIdeal.Gen

variable {F : FTy → Type} [FloatOps F]

/-- Two zero words. -/
def corner : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

/-- Both index words are zero. -/
theorem corner_zero (i : S2.Idx) : corner i = 0#32 := by
  obtain ⟨k, rfl⟩ : ∃ k : Fin 2, i = ix1 k := ⟨i 0, funext fun a => match a with | ⟨0, _⟩ => rfl⟩
  match k with
  | 0 => rfl
  | 1 => rfl

/-- The queries: the points at the corner of zeros. -/
def queries (x : FVec F S10000x3 .f32) : FVec F S10240x128 .f32 :=
  Host.scatter scatter_S10240x128_S2_S10000x3_01_n_01_0 (fun _ b => b) (broadcastInDim S10240x128 ![] bcast_S_S10240x128 (constant S_ .f32 0x00000000#32)) corner x

/-- The keys: the points, transposed, at the corner of zeros. -/
def keys (x : FVec F S10000x3 .f32) : FVec F S128x10240 .f32 :=
  Host.scatter scatter_S128x10240_S2_S3x10000_01_n_01_0 (fun _ b => b) (broadcastInDim S128x10240 ![] bcast_S_S128x10240 (constant S_ .f32 0x00000000#32)) corner
    (transpose S3x10000 [1, 0] x transposes_S10000x3_S3x10000_1_0)

/-- In its corner the array of queries holds the points, -/
theorem queries_inside (x : FVec F S10000x3 .f32) (r : Fin 10240) (k : Fin 128) (p : Fin 10000) (e : Fin 3) (hp : p.val = r.val) (he : e.val = k.val) :
    queries x (ix2 r k) = x (ix2 p e) :=
  pad_inside _ (fun _ => rfl) (fun _ => rfl) corner corner_zero _ x r k p e hp he

/-- and zero in the columns from 3 on. -/
theorem queries_outside (x : FVec F S10000x3 .f32) (r : Fin 10240) (k : Fin 128) (h : 3 ≤ k.val) :
    queries x (ix2 r k) = FloatOps.ofBits .f32 0x00000000#32 :=
  pad_outside _ (fun _ => rfl) (fun _ => rfl) corner corner_zero _ x r k (.inr h)

/-- In its corner the array of keys holds the points, one a column, -/
theorem keys_inside (x : FVec F S10000x3 .f32) (k : Fin 128) (c : Fin 10240) (p : Fin 10000) (e : Fin 3) (hp : p.val = c.val) (he : e.val = k.val) :
    keys x (ix2 k c) = x (ix2 p e) := by
  refine (pad_inside _ (fun _ => rfl) (fun _ => rfl) corner corner_zero _ _ k c e p he hp).trans ?_
  refine congrArg x (funext fun a => ?_)
  match a with
  | ⟨0, _⟩ => rfl
  | ⟨1, _⟩ => rfl

/-- and zero elsewhere. -/
theorem keys_outside (x : FVec F S10000x3 .f32) (k : Fin 128) (c : Fin 10240) (h : 3 ≤ k.val ∨ 10000 ≤ c.val) :
    keys x (ix2 k c) = FloatOps.ofBits .f32 0x00000000#32 :=
  pad_outside _ (fun _ => rfl) (fun _ => rfl) corner corner_zero _ _ k c h

variable (m : (ℓ : Loc nD τ sig) → Buf (Elt F) ℓ) (ρ : Dev nD → PrngReg)

/-- The region finds the queries in its first input -/
theorem V_queries (c : Dev nD) : V m c main_v4 = queries (m ((c : Thread nD τ).loc main_arg0)) := by
  show StableHlo.after hostOps0 _ _ = _
  after_results <;> rfl

/-- and the keys in its second. -/
theorem V_keys (c : Dev nD) : V m c main_v10 = keys (m ((c : Thread nD τ).loc main_arg0)) := by
  show StableHlo.after hostOps0 _ _ = _
  after_results <;> rfl

/-- The blocks of the queries go down with the grid point, -/
theorem index0 : ∀ t : Fin cfg0.N, win0_0.index t (0 : Fin 2) = t.val ∧ win0_0.index t (1 : Fin 2) = 0 := (by decide +kernel : ∀ t : Fin grid0.N, _)
/-- the keys are one block, -/
theorem index1 : ∀ t : Fin cfg0.N, win0_1.index t (0 : Fin 2) = 0 ∧ win0_1.index t (1 : Fin 2) = 0 := (by decide +kernel : ∀ t : Fin grid0.N, _)
/-- the blocks of the numbers go down with the grid point, -/
theorem index2 : ∀ t : Fin cfg0.N, win0_2.index t (0 : Fin 2) = t.val ∧ win0_2.index t (1 : Fin 2) = 0 := (by decide +kernel : ∀ t : Fin grid0.N, _)
/-- those of the row numbers too, -/
theorem index3 : ∀ t : Fin cfg0.N, win0_3.index t (0 : Fin 2) = t.val ∧ win0_3.index t (1 : Fin 2) = 0 := (by decide +kernel : ∀ t : Fin grid0.N, _)
/-- and those of the distances too. -/
theorem index4 : ∀ t : Fin cfg0.N, win0_4.index t (0 : Fin 2) = t.val ∧ win0_4.index t (1 : Fin 2) = 0 := (by decide +kernel : ∀ t : Fin grid0.N, _)
/-- The coordinate of a grid point is its number. -/
theorem coord : ∀ t : Fin cfg0.N, (grid0.coords t 0).val = t.val := (by decide +kernel : ∀ t : Fin grid0.N, _)

/-- There are 40 grid points. -/
theorem points (t : Fin cfg0.N) : t.val < 40 := N_0 ▸ t.isLt

/-- Row `i` of the block of point `t`. -/
def place (t : Fin cfg0.N) (i : Fin 256) : Fin 10240 := ⟨t.val * 256 + i.val, by have := points t; omega⟩

/-- The block of queries of a grid point, read at one place. -/
theorem block_queries (c : Dev nD) (t : Fin cfg0.N) (i : Fin 256) (k : Fin 128) :
    iblk m c 0 t (ix2 (n0 := 256) (n1 := 128) i k) = queries (m ((c : Thread nD τ).loc main_arg0)) (ix2 (place t i) k) := by
  obtain ⟨e0, e1⟩ := index0 t
  rw [← V_queries]
  show V m c main_v4 (((cfg0.win 0).blk t).view.emb (ix2 (n0 := 256) (n1 := 128) i k)) = _
  refine congrArg (V m c main_v4) (funext fun a => Fin.ext ?_)
  match a with
  | ⟨0, _⟩ => show win0_0.index t (0 : Fin 2) * 256 + 1 * i.val = t.val * 256 + i.val; omega
  | ⟨1, _⟩ => show win0_0.index t (1 : Fin 2) * 128 + 1 * k.val = k.val; omega

/-- The block of keys, read at one place. -/
theorem block_keys (c : Dev nD) (t : Fin cfg0.N) (k : Fin 128) (j : Fin 10240) :
    iblk m c 1 t (ix2 (n0 := 128) (n1 := 10240) k j) = keys (m ((c : Thread nD τ).loc main_arg0)) (ix2 k j) := by
  obtain ⟨e0, e1⟩ := index1 t
  rw [← V_keys]
  show V m c main_v10 (((cfg0.win 1).blk t).view.emb (ix2 (n0 := 128) (n1 := 10240) k j)) = _
  refine congrArg (V m c main_v10) (funext fun a => Fin.ext ?_)
  match a with
  | ⟨0, _⟩ => show win0_1.index t (0 : Fin 2) * 128 + 1 * k.val = k.val; omega
  | ⟨1, _⟩ => show win0_1.index t (1 : Fin 2) * 10240 + 1 * j.val = j.val; omega

/-- The row of distances of point `t`. -/
def tile (c : Dev nD) (t : Fin cfg0.N) : FVec F S256x10240 .f32 := rows (iblk m c 0 t) (iblk m c 1 t)

/-- A whole output from its blocks. -/
def glue {α : Type} (f : Fin cfg0.N → S256x16.Idx → α) : S10240x16.Idx → α := fun j =>
  f ⟨(j 0).val / 256, by have h : (j 0).val < 10240 := (j 0).isLt; show _ < grid0.N; rw [N_0]; omega⟩
    (ix2 (n0 := 256) (n1 := 16) ⟨(j 0).val % 256, by omega⟩ (j 1))

/-- The whole output at a row of a block is that block there. -/
theorem glue_place {α : Type} (f : Fin cfg0.N → S256x16.Idx → α) (t : Fin cfg0.N) (i : Fin 256) (r : Fin 16) :
    glue f (ix2 (place t i) r) = f t (ix2 i r) := by
  have hi := i.isLt
  unfold glue
  congr 1
  · exact Fin.ext (by show (t.val * 256 + i.val) / 256 = t.val; omega)
  · funext a
    match a with
    | ⟨0, _⟩ => exact Fin.ext (by show (t.val * 256 + i.val) % 256 = i.val; omega)
    | ⟨1, _⟩ => rfl

/-- Where the numbers' block stands in the whole output. -/
theorem emb2 (t : Fin cfg0.N) (j : S256x16.Idx) : ((cfg0.win 2).blk t).view.emb j = ix2 (n0 := 10240) (n1 := 16) (place t (j 0)) (j 1) := by
  obtain ⟨e0, e1⟩ := index2 t
  funext a; apply Fin.ext
  match a with
  | ⟨0, _⟩ => show win0_2.index t (0 : Fin 2) * 256 + 1 * (j 0).val = t.val * 256 + (j 0).val; omega
  | ⟨1, _⟩ => show win0_2.index t (1 : Fin 2) * 16 + 1 * (j 1).val = (j 1).val; omega

/-- Where the row numbers' block stands in the whole output. -/
theorem emb3 (t : Fin cfg0.N) (j : S256x16.Idx) : ((cfg0.win 3).blk t).view.emb j = ix2 (n0 := 10240) (n1 := 16) (place t (j 0)) (j 1) := by
  obtain ⟨e0, e1⟩ := index3 t
  funext a; apply Fin.ext
  match a with
  | ⟨0, _⟩ => show win0_3.index t (0 : Fin 2) * 256 + 1 * (j 0).val = t.val * 256 + (j 0).val; omega
  | ⟨1, _⟩ => show win0_3.index t (1 : Fin 2) * 16 + 1 * (j 1).val = (j 1).val; omega

/-- Where the distances' block stands in the whole output. -/
theorem emb4 (t : Fin cfg0.N) (j : S256x16.Idx) : ((cfg0.win 4).blk t).view.emb j = ix2 (n0 := 10240) (n1 := 16) (place t (j 0)) (j 1) := by
  obtain ⟨e0, e1⟩ := index4 t
  funext a; apply Fin.ext
  match a with
  | ⟨0, _⟩ => show win0_4.index t (0 : Fin 2) * 256 + 1 * (j 0).val = t.val * 256 + (j 0).val; omega
  | ⟨1, _⟩ => show win0_4.index t (1 : Fin 2) * 16 + 1 * (j 1).val = (j 1).val; omega

/-- An index of a block is the pair of its coordinates. -/
theorem ix2_eta (j : S256x16.Idx) : ix2 (n0 := 256) (n1 := 16) (j 0) (j 1) = j := funext fun a => match a with | ⟨0, _⟩ => rfl | ⟨1, _⟩ => rfl

/-- The whole output at an index of a block is that block there. -/
theorem glue_at {α : Type} (f : Fin cfg0.N → S256x16.Idx → α) (t : Fin cfg0.N) (j : S256x16.Idx) :
    glue f (ix2 (n0 := 10240) (n1 := 16) (place t (j 0)) (j 1)) = f t j :=
  (glue_place f t (j 0) (j 1)).trans (congrArg (f t) (ix2_eta j))

/-- Every row stands in the block of a point. -/
theorem place_of (j : S10240x16.Idx) : ∃ (t : Fin cfg0.N) (i : S256x16.Idx), ix2 (n0 := 10240) (n1 := 16) (place t (i 0)) (i 1) = j := by
  have h : (j 0).val < 10240 := (j 0).isLt
  refine ⟨⟨(j 0).val / 256, by show _ < grid0.N; rw [N_0]; omega⟩, ix2 (n0 := 256) (n1 := 16) ⟨(j 0).val % 256, by omega⟩ (j 1), funext fun a => ?_⟩
  match a with
  | ⟨0, _⟩ => exact Fin.ext (by show (j 0).val / 256 * 256 + (j 0).val % 256 = (j 0).val; omega)
  | ⟨1, _⟩ => rfl

/-- The numbers after the run, -/
theorem final2 (c : Dev nD) : (dats m 0 c).arrAt 2 cfg0.N = glue fun t => numTile (tile m c t) :=
  (dats m 0 c).arrAt_eq_of_cover 2 (glue fun t => numTile (tile m c t)) (fun t _ => by
    funext j
    show (dats m 0 c).after 2 t j = glue (fun t => numTile (tile m c t)) (((cfg0.win 2).blk t).view.emb j)
    rw [after0_2]
    have e : (outsAt0 m c t).1 = numTile (tile m c t) :=
      out_num c (grid0.coords t) (ms0_0 t) (hs0_0 t) (ms0_1 t) (hs0_1 t) (ms0_2 t) (hs0_2 t) (ms0_3 t) (hs0_3 t) (ms0_4 t) (hs0_4 t) (iblk m c 0 t) (iblk m c 1 t)
    exact (congrFun e j).trans ((congrArg (glue fun t => numTile (tile m c t)) (emb2 t j)).trans (glue_at (fun t => numTile (tile m c t)) t j)).symm) fun i => by
    obtain ⟨t, j, rfl⟩ := place_of i
    exact ⟨t, flush0_2 t, emb2 t j ▸ ((cfg0.win 2).blk t).view.emb_mem_set j⟩

/-- the rows, -/
theorem final3 (c : Dev nD) : (dats m 0 c).arrAt 3 cfg0.N = glue fun t => k0_pay1 (BitVec.ofNat 32 t.val) :=
  (dats m 0 c).arrAt_eq_of_cover 3 (glue fun t => k0_pay1 (BitVec.ofNat 32 t.val)) (fun t _ => by
    funext j
    show (dats m 0 c).after 3 t j = glue (fun t => k0_pay1 (BitVec.ofNat 32 t.val)) (((cfg0.win 3).blk t).view.emb j)
    rw [after0_3]
    have e : (outsAt0 m c t).2.1 = k0_pay1 (BitVec.ofNat 32 (grid0.coords t 0).val) :=
      out_row c (grid0.coords t) (ms0_0 t) (hs0_0 t) (ms0_1 t) (hs0_1 t) (ms0_2 t) (hs0_2 t) (ms0_3 t) (hs0_3 t) (ms0_4 t) (hs0_4 t) (iblk m c 0 t) (iblk m c 1 t)
    rw [coord t] at e
    exact (congrFun e j).trans ((congrArg (glue fun t => k0_pay1 (BitVec.ofNat 32 t.val)) (emb3 t j)).trans
      (glue_at (fun t => k0_pay1 (BitVec.ofNat 32 t.val)) t j)).symm) fun i => by
    obtain ⟨t, j, rfl⟩ := place_of i
    exact ⟨t, flush0_3 t, emb3 t j ▸ ((cfg0.win 3).blk t).view.emb_mem_set j⟩

/-- and the distances. -/
theorem final4 (c : Dev nD) : (dats m 0 c).arrAt 4 cfg0.N = glue fun t => distTile (tile m c t) :=
  (dats m 0 c).arrAt_eq_of_cover 4 (glue fun t => distTile (tile m c t)) (fun t _ => by
    funext j
    show (dats m 0 c).after 4 t j = glue (fun t => distTile (tile m c t)) (((cfg0.win 4).blk t).view.emb j)
    rw [after0_4]
    have e : (outsAt0 m c t).2.2 = distTile (tile m c t) :=
      out_dist c (grid0.coords t) (ms0_0 t) (hs0_0 t) (ms0_1 t) (hs0_1 t) (ms0_2 t) (hs0_2 t) (ms0_3 t) (hs0_3 t) (ms0_4 t) (hs0_4 t) (iblk m c 0 t) (iblk m c 1 t)
    exact (congrFun e j).trans ((congrArg (glue fun t => distTile (tile m c t)) (emb4 t j)).trans (glue_at (fun t => distTile (tile m c t)) t j)).symm) fun i => by
    obtain ⟨t, j, rfl⟩ := place_of i
    exact ⟨t, flush0_4 t, emb4 t j ▸ ((cfg0.win 4).blk t).view.emb_mem_set j⟩

/-- The first 10000 rows of an output. -/
def head (α : Type) (v : S10240x16.Idx → α) : S10000x16.Idx → α := extractStridedSlice S10000x16 ![0, 0] v slices_S10240x16_S10000x16_0_0

/-- After the host's last operations the numbers are the first 10000 rows of the launch's, read row by row. -/
theorem tail_num (c : Dev nD) : Pipeline.afterTail₀ cfgs (dats m) 0 (V0 m) [hostOps1] c main_v13
    = shapeCast S160000 (head _ (glue fun t => numTile (tile m c t))) shapeCasts_S10000x16_S160000 := by
  rw [← final2, ← Pipeline.withArrays_arr spec0 winFacts0.arr_inj c (V0 m c) (fun w => (dats m 0 c).arrAt w cfg0.N) 2]
  unfold Pipeline.afterTail₀
  show StableHlo.after hostOps1 _ _ = _
  after_results <;> rfl

/-- After the host's last operations the row numbers are the first 10000 rows of the launch's, read row by row. -/
theorem tail_row (c : Dev nD) : Pipeline.afterTail₀ cfgs (dats m) 0 (V0 m) [hostOps1] c main_v15
    = shapeCast S160000 (head _ (glue fun t => k0_pay1 (BitVec.ofNat 32 t.val))) shapeCasts_S10000x16_S160000 := by
  rw [← final3 m, ← Pipeline.withArrays_arr spec0 winFacts0.arr_inj c (V0 m c) (fun w => (dats m 0 c).arrAt w cfg0.N) 3]
  unfold Pipeline.afterTail₀
  show StableHlo.after hostOps1 _ _ = _
  after_results <;> rfl

/-- After the host's last operations the distances are the first 10000 rows of the launch's. -/
theorem tail_dist (c : Dev nD) : Pipeline.afterTail₀ cfgs (dats m) 0 (V0 m) [hostOps1] c main_v16
    = head _ (glue fun t => distTile (tile m c t)) := by
  rw [← final4, ← Pipeline.withArrays_arr spec0 winFacts0.arr_inj c (V0 m c) (fun w => (dats m 0 c).arrAt w cfg0.N) 4]
  unfold Pipeline.afterTail₀
  show StableHlo.after hostOps1 _ _ = _
  after_results <;> rfl

/-- The run: every result as a function of the arguments, and the arguments unchanged. -/
theorem kernel_run : θ_run defs (onTc (τ := τ) (main (F := F))) ⟨m, fun _ => 0, ρ⟩ fun r => ∀ c : Dev nD,
      r.2.mem ((c : Thread nD τ).loc main_v13) = shapeCast S160000 (head _ (glue fun t => numTile (tile m c t))) shapeCasts_S10000x16_S160000
      ∧ r.2.mem ((c : Thread nD τ).loc main_v15) = shapeCast S160000 (head _ (glue fun t => k0_pay1 (BitVec.ofNat 32 t.val))) shapeCasts_S10000x16_S160000
      ∧ r.2.mem ((c : Thread nD τ).loc main_v16) = head _ (glue fun t => distTile (tile m c t))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v13 (Pipeline.mem_restRefs_of main_v13 (by decide) (by decide))).trans (tail_num m c),
      ((h c).2 main_v15 (Pipeline.mem_restRefs_of main_v15 (by decide) (by decide))).trans (tail_row m c),
      ((h c).2 main_v16 (Pipeline.mem_restRefs_of main_v16 (by decide) (by decide))).trans (tail_dist m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Knn

end
-- ==== Proof.Knn.Dist.lean ====
/- The squared distance of two points over the ideal values: the reference's and the one the kernel computes. -/
module

public import proofs.«01_k».proof.Proof.Knn.Pieces
public import Idealize.ShloMosaic.Lib.Pointwise

@[expose] public section

noncomputable section

namespace Cert.Knn

open Idealize.ShloMosaic Cert.KernelIdeal Cert.KernelIdeal.Gen

/-- The squared distance of two points: the sum of their squares less twice their product. -/
def dist2 (a b : Fin 3 → EReal) : EReal :=
  ((∑ k, a k * a k) + ∑ k, b k * b k) - Ideal.ofBits .f32 0x40000000#32 * ∑ k, a k * b k

/-- A square is at least 0, of an infinite number too. -/
theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- The row of distances at one place. -/
theorem rowOf_apply (v0 v2 v4 : Vec Ideal S256x1 .f32) (v6 v8 v10 : Vec Ideal S1x10240 .f32) (v30 : Vec Ideal S256x128 .f32)
    (v32 : Vec Ideal S128x10240 .f32) (i : Fin 256) (c : Fin 10240) :
    rowOf v0 v2 v4 v6 v8 v10 v30 v32 (ix2 i c)
      = (((v0 (ix2 i 0) : EReal) * v0 (ix2 i 0) + v2 (ix2 i 0) * v2 (ix2 i 0) + v4 (ix2 i 0) * v4 (ix2 i 0))
          + Scalar.select (IntOp.cmpi .sge (BitVec.ofNat 32 c.val) 10000#32) (Ideal.ofBits .f32 0x7F800000#32)
            ((v6 (ix2 0 c) : EReal) * v6 (ix2 0 c) + v8 (ix2 0 c) * v8 (ix2 0 c) + v10 (ix2 0 c) * v10 (ix2 0 c)))
        - Ideal.ofBits .f32 0x40000000#32 * (∑ k : Fin 128, (v30 (ix2 i k) : EReal) * v32 (ix2 k c)) := by
  pointwise [rowOf, k0_pay2, k0_pay3, k0_pay4, k0_pay5]

/-- A product over 128 columns of which all but three are zero. -/
theorem sum_three (f : Fin 128 → EReal) (h : ∀ k : Fin 128, 3 ≤ k.val → f k = 0) : ∑ k, f k = ∑ k : Fin 3, f (k.castLE (by omega)) := by
  have e := Fin.sum_univ_add (a := 3) (b := 125) f
  rw [show ∑ j : Fin 125, f (Fin.natAdd 3 j) = 0 from Finset.sum_eq_zero fun j _ => h _ (by simp), add_zero] at e
  exact e

end Cert.Knn

end
-- ==== Proof.Knn.Nets.lean ====
/- The networks of the kernel, on one lane: the batch network sorts, and the half-cleaners sort what a merge keeps. Both are
   checked on vectors of two values and carried to every linear order. -/
module

public import proofs.«01_k».proof.Proof.Knn.Tile
public import Mathlib.Data.Nat.Bits
public import Mathlib.Order.Fin.Basic
public import Mathlib.Order.Interval.Finset.Fin
public import Mathlib.Tactic.Linarith

@[expose] public section

noncomputable section

namespace Cert.Knn

open Idealize.ShloMosaic Idealize.ShloMosaic.SortNet

variable {α : Type*} [LinearOrder α]

/-- Exchanges within a set of positions see nothing outside it. -/
theorem apply_congr_on {n : Nat} (P : Fin n → Prop) (N : Network n) (hN : ∀ c ∈ N, P c.lo ∧ P c.hi) (u v : Fin n → α)
    (h : ∀ k, P k → u k = v k) : ∀ k, P k → Network.apply N u k = Network.apply N v k := by
  induction N generalizing u v with
  | nil => exact h
  | cons c N ih =>
    rw [Network.apply_cons, Network.apply_cons]
    refine ih (fun d hd => hN d (List.mem_cons_of_mem _ hd)) _ _ fun k hk => ?_
    obtain ⟨hl, hh⟩ := hN c List.mem_cons_self
    by_cases h1 : k = c.lo
    · rw [h1, Cmpx.apply_lo, Cmpx.apply_lo, h _ hl, h _ hh]
    · by_cases h2 : k = c.hi
      · rw [h2, Cmpx.apply_hi, Cmpx.apply_hi, h _ hl, h _ hh]
      · rw [Cmpx.apply_other _ _ _ h1 h2, Cmpx.apply_other _ _ _ h1 h2, h _ hk]

/-- In a sorted vector the entries below `t` come first, as many as there are. -/
theorem lt_iff_lt_count {n : Nat} (w : Fin n → α) (hw : Monotone w) (t : α) (k : Fin n) :
    w k < t ↔ k.val < (Finset.univ.filter fun j => w j < t).card := by
  constructor
  · intro h
    have hs : Finset.Iic k ⊆ Finset.univ.filter fun j => w j < t := fun j hj => by
      rw [Finset.mem_filter]
      exact ⟨Finset.mem_univ _, lt_of_le_of_lt (hw (Finset.mem_Iic.mp hj)) h⟩
    have := Finset.card_le_card hs
    rw [Fin.card_Iic] at this
    omega
  · intro h
    by_contra hk
    have hs : (Finset.univ.filter fun j => w j < t) ⊆ Finset.Iio k := fun j hj => by
      rw [Finset.mem_filter] at hj
      rw [Finset.mem_Iio]
      by_contra hjk
      exact hk (lt_of_le_of_lt (hw (not_lt.mp hjk)) hj.2)
    have := Finset.card_le_card hs
    rw [Fin.card_Iio] at this
    omega

/-- Rearranging does not change how many entries lie below `t`. -/
theorem count_perm {n : Nat} (v : Fin n → α) (σ : Equiv.Perm (Fin n)) (t : α) :
    (Finset.univ.filter fun j => (v ∘ σ) j < t).card = (Finset.univ.filter fun j => v j < t).card :=
  Finset.card_equiv σ fun j => by simp only [Finset.mem_filter, Finset.mem_univ, true_and, Function.comp_apply]

/-- A sorted vector of two values, by the number of its lesser entries. -/
theorem sorted_bool {n : Nat} (w : Fin n → Bool) (hw : Monotone w) :
    ∃ p ≤ n, ∀ k, w k = decide (p ≤ k.val) := by
  refine ⟨(Finset.univ.filter fun j => w j < true).card, ?_, fun k => ?_⟩
  · exact (Finset.card_le_univ _).trans (by rw [Fintype.card_fin])
  · have h := lt_iff_lt_count w hw true k
    rcases hk : w k with _ | _
    · rw [hk] at h
      exact (decide_eq_false (by have := h.mp (by decide); omega)).symm
    · rw [hk] at h
      exact (decide_eq_true (by by_contra h'; exact absurd (h.mpr (by omega)) (by decide))).symm

/-- The eight low bits of `m` at positions 0 to 7, and again at positions 8 to 15. -/
def twice (m : Nat) : Fin 16 → Bool := fun k => m.testBit (k.val % 8)

/-- `p` low entries in positions 0 to 7, `q` in positions 8 to 15. -/
def halves (p q : Nat) : Fin 16 → Bool := fun k => if k.val < 8 then decide (p ≤ k.val) else decide (8 + q ≤ k.val)

/-- Low entries at both ends: `a` at the front, `b` at the back. -/
def ends (a b : Nat) : Fin 16 → Bool := fun k => decide (a ≤ k.val) && decide (k.val + b < 16)

set_option maxRecDepth 100000 in
/-- The first part of the sorting network sorts every list of bits in its lower half, -/
theorem sortLow_bits : ∀ m : Fin 256, ∀ k : Fin 7,
    Network.apply sortLow (twice m) ⟨k.val, by omega⟩ ≤ Network.apply sortLow (twice m) ⟨k.val + 1, by omega⟩ := by
  decide +kernel

set_option maxRecDepth 100000 in
/-- and the second part every list of bits in its upper half. -/
theorem sortHigh_bits : ∀ m : Fin 256, ∀ k : Fin 7,
    Network.apply sortHigh (twice m) ⟨k.val + 8, by omega⟩ ≤ Network.apply sortHigh (twice m) ⟨k.val + 9, by omega⟩ := by
  decide +kernel

set_option maxRecDepth 100000 in
/-- The third part merges two sorted halves of bits. -/
theorem mergeHalves_bits : ∀ p q : Fin 9, ∀ k : Fin 15,
    Network.apply mergeHalves (halves p q) k.castSucc ≤ Network.apply mergeHalves (halves p q) k.succ := by
  decide +kernel

set_option maxRecDepth 100000 in
/-- The cleaning network sorts the bits that the first step of a merge leaves. -/
theorem clean16_bits : ∀ a b : Fin 17, ∀ k : Fin 16, Network.apply clean16 (ends a b) k = decide (a.val + b.val ≤ k.val) := by
  decide +kernel

/-- The first part of the sorting network touches the lower half alone. -/
theorem sortLow_low : ∀ c ∈ sortLow, c.lo.val < 8 ∧ c.hi.val < 8 := by decide
/-- The second part touches the upper half alone. -/
theorem sortHigh_high : ∀ c ∈ sortHigh, 8 ≤ c.lo.val ∧ 8 ≤ c.hi.val := by decide

/-- A vector of eight bits as a number. -/
theorem exists_bits (f : Fin 8 → Bool) : ∃ m : Fin 256, ∀ k : Fin 8, m.val.testBit k.val = f k :=
  ⟨⟨Nat.ofBits f, Nat.ofBits_lt_two_pow f⟩, fun k => Nat.testBit_ofBits_lt f k.val k.isLt⟩

/-- The batch network sorts vectors of two values. -/
theorem sort16_bool (b : Fin 16 → Bool) : Monotone (Network.apply sort16 b) := by
  have hsplit : Network.apply sort16 b = Network.apply mergeHalves (Network.apply sortHigh (Network.apply sortLow b)) := by
    unfold sort16
    rw [Network.apply_append, Network.apply_append]
  rw [hsplit]
  set b1 := Network.apply sortLow b with hb1
  set b2 := Network.apply sortHigh b1 with hb2
  have hlow : Monotone fun k : Fin 8 => b2 ⟨k.val, by omega⟩ := by
    obtain ⟨m, hm⟩ := exists_bits fun k => b ⟨k.val, by omega⟩
    have e : ∀ k : Fin 16, k.val < 8 → b2 k = Network.apply sortLow (twice m) k := fun k hk => by
      rw [hb2, Network.apply_of_not_touched _ _ _ fun c hc => ?_, hb1]
      · refine apply_congr_on (fun k => k.val < 8) _ sortLow_low _ _ (fun j hj => ?_) k hk
        have := hm ⟨j.val, hj⟩
        simp only [twice, Nat.mod_eq_of_lt hj]
        exact this.symm
      · have := sortHigh_high c hc
        exact ⟨fun h => by subst h; omega, fun h => by subst h; omega⟩
    refine Fin.monotone_iff_le_succ.mpr fun k => ?_
    have := sortLow_bits m k
    rw [e _ (by simp; omega), e _ (by simp; omega)]
    exact this
  have hhigh : Monotone fun k : Fin 8 => b2 ⟨k.val + 8, by omega⟩ := by
    obtain ⟨m, hm⟩ := exists_bits fun k => b1 ⟨k.val + 8, by omega⟩
    have e : ∀ k : Fin 16, 8 ≤ k.val → b2 k = Network.apply sortHigh (twice m) k := fun k hk => by
      rw [hb2]
      refine apply_congr_on (fun k => 8 ≤ k.val) _ sortHigh_high _ _ (fun j hj => ?_) k hk
      have hj' : j.val % 8 = j.val - 8 := by omega
      have := hm ⟨j.val - 8, by omega⟩
      simp only [twice, hj']
      rw [this]
      congr 1
      exact Fin.ext (by simp; omega)
    refine Fin.monotone_iff_le_succ.mpr fun k => ?_
    have := sortHigh_bits m k
    rw [e _ (by simp), e _ (by simp)]
    exact this
  obtain ⟨p, hp, ep⟩ := sorted_bool _ hlow
  obtain ⟨q, hq, eq⟩ := sorted_bool _ hhigh
  have e : b2 = halves p q := funext fun k => by
    unfold halves
    by_cases hk : k.val < 8
    · rw [if_pos hk]; exact ep ⟨k.val, hk⟩
    · rw [if_neg hk]
      have h := eq ⟨k.val - 8, by omega⟩
      have hk' : (⟨k.val - 8 + 8, by omega⟩ : Fin 16) = k := Fin.ext (by simp; omega)
      simp only [hk'] at h
      rw [h]
      exact decide_eq_decide.mpr (by omega)
  rw [e]
  exact Fin.monotone_iff_le_succ.mpr fun k => mergeHalves_bits ⟨p, by omega⟩ ⟨q, by omega⟩ k

/-- After the batch network the entries below `t` come first. -/
theorem sort16_rank (v : Fin 16 → α) (t : α) (k : Fin 16) :
    Network.apply sort16 v k < t ↔ k.val < (Finset.univ.filter fun j => v j < t).card := by
  obtain ⟨σ, hσ⟩ := Network.exists_perm sort16 v
  rw [lt_iff_lt_count _ (Network.zero_one sort16 sort16_bool v) t k, hσ, count_perm]

/-- After a merge the entries below `t` come first: as many as both lists have, up to sixteen. -/
theorem clean16_rank (r b : Fin 16 → α) (t : α) (A B : Nat) (hr : ∀ k, r k < t ↔ k.val < A) (hb : ∀ k, b k < t ↔ k.val < B)
    (k : Fin 16) : Network.apply clean16 (fun k => min (r k) (b k.rev)) k < t ↔ k.val < A + B := by
  have hf : Monotone fun y : α => decide (t ≤ y) := fun x y hxy => by
    show decide (t ≤ x) ≤ decide (t ≤ y)
    by_cases h : t ≤ x
    · rw [decide_eq_true h, decide_eq_true (h.trans hxy)]
    · rw [decide_eq_false h]; exact Bool.false_le _
  have hv : (fun y : α => decide (t ≤ y)) ∘ (fun k => min (r k) (b k.rev)) = ends (min A 16) (min B 16) := funext fun k => by
    have h1 := hr k
    have h2 := hb k.rev
    have h3 : k.rev.val = 15 - k.val := by rw [Fin.val_rev]; omega
    simp only [Function.comp_apply, ends, ← Bool.decide_and]
    refine decide_eq_decide.mpr ?_
    rw [le_min_iff, ← not_lt, ← not_lt, h1, h2, h3]
    have := k.isLt
    omega
  have h := congrFun (Network.apply_comp clean16 _ hf (fun k => min (r k) (b k.rev))) k
  rw [hv, clean16_bits ⟨min A 16, by omega⟩ ⟨min B 16, by omega⟩ k] at h
  have h' := decide_eq_decide.mp h
  rw [← not_le, ← h']
  have := k.isLt
  simp only
  omega

/-! ## Entries: a value with a number -/

variable {ν : Type*}

/-- A property of every entry holds of every entry after a network. -/
theorem applyBy_forall (N : Network 16) (v : Fin 16 → α × ν) (Q : α × ν → Prop) (h : ∀ k, Q (v k)) (k : Fin 16) :
    Q (Network.applyBy Prod.fst N v k) := by
  obtain ⟨σ, hσ⟩ := Network.exists_perm_applyBy Prod.fst N v
  rw [hσ]
  exact h _

/-- A batch of sixteen chunks of one lane, sorted by value. -/
def laneBatch (D : Fin 80 → α × ν) (g : Fin 5) : Fin 16 → α × ν :=
  Network.applyBy Prod.fst sort16 fun j => D ⟨g.val * 16 + j.val, by omega⟩

/-- A merge on one lane. -/
def laneMerge (r b : Fin 16 → α × ν) : Fin 16 → α × ν :=
  Network.applyBy Prod.fst clean16 fun k => if (r k).1 ≤ (b k.rev).1 then r k else b k.rev

/-- The sixteen least of one lane. -/
def laneKept (D : Fin 80 → α × ν) : Fin 16 → α × ν :=
  laneMerge (laneMerge (laneMerge (laneMerge (laneBatch D 0) (laneBatch D 1)) (laneBatch D 2)) (laneBatch D 3)) (laneBatch D 4)

/-- How many entries of batch `g` lie below `t`. -/
def batchCount (D : Fin 80 → α × ν) (t : α) (g : Fin 5) : Nat :=
  (Finset.univ.filter fun j : Fin 16 => (D ⟨g.val * 16 + j.val, by omega⟩).1 < t).card

/-- The value at place `k` of a sorted batch is below `t` exactly when more than `k` of the batch are. -/
theorem laneBatch_rank (D : Fin 80 → α × ν) (g : Fin 5) (t : α) (k : Fin 16) :
    (laneBatch D g k).1 < t ↔ k.val < batchCount D t g := by
  have h := congrFun (Network.key_comp_applyBy Prod.fst sort16 fun j => D ⟨g.val * 16 + j.val, by omega⟩) k
  have h' : (laneBatch D g k).1 = Network.apply sort16 (Prod.fst ∘ fun j => D ⟨g.val * 16 + j.val, by omega⟩) k := h
  rw [h', sort16_rank]
  rfl

/-- The same for the sixteen least of two sorted lists. -/
theorem laneMerge_rank (r b : Fin 16 → α × ν) (t : α) (A B : Nat) (hr : ∀ k, (r k).1 < t ↔ k.val < A)
    (hb : ∀ k, (b k).1 < t ↔ k.val < B) (k : Fin 16) : (laneMerge r b k).1 < t ↔ k.val < A + B := by
  have h := congrFun (Network.key_comp_applyBy Prod.fst clean16 fun k => if (r k).1 ≤ (b k.rev).1 then r k else b k.rev) k
  have h' : (laneMerge r b k).1 = Network.apply clean16 (fun k => min (r k).1 (b k.rev).1) k := by
    refine h.trans (congrFun (congrArg _ (funext fun j => ?_)) k)
    simp only [Function.comp_apply]
    by_cases hj : (r j).1 ≤ (b j.rev).1
    · rw [if_pos hj, min_eq_left hj]
    · rw [if_neg hj, min_eq_right (le_of_lt (not_le.mp hj))]
  rw [h']
  exact clean16_rank (fun k => (r k).1) (fun k => (b k).1) t A B hr hb k

/-- What a lane keeps: the entries below `t` come first, as many as there are, up to sixteen. -/
theorem laneKept_rank (D : Fin 80 → α × ν) (t : α) (k : Fin 16) :
    (laneKept D k).1 < t ↔ k.val < ∑ g : Fin 5, batchCount D t g := by
  rw [Fin.sum_univ_five]
  exact laneMerge_rank _ _ t _ _ (laneMerge_rank _ _ t _ _ (laneMerge_rank _ _ t _ _ (laneMerge_rank _ _ t _ _
    (laneBatch_rank D 0 t) (laneBatch_rank D 1 t)) (laneBatch_rank D 2 t)) (laneBatch_rank D 3 t)) (laneBatch_rank D 4 t) k

/-- What holds of every entry of a batch holds of every entry of the sorted batch. -/
theorem laneBatch_forall (D : Fin 80 → α × ν) (Q : α × ν → Prop) (h : ∀ c, Q (D c)) (g : Fin 5) (k : Fin 16) :
    Q (laneBatch D g k) := applyBy_forall _ _ Q (fun _ => h _) k

/-- What holds of every entry of two lists holds of every entry of their merge. -/
theorem laneMerge_forall (r b : Fin 16 → α × ν) (Q : α × ν → Prop) (hr : ∀ k, Q (r k)) (hb : ∀ k, Q (b k)) (k : Fin 16) :
    Q (laneMerge r b k) := applyBy_forall _ _ Q (fun j => by
      show Q (if (r j).1 ≤ (b j.rev).1 then r j else b j.rev)
      split
      · exact hr j
      · exact hb _) k

/-- What a lane keeps are entries of the lane. -/
theorem laneKept_forall (D : Fin 80 → α × ν) (Q : α × ν → Prop) (h : ∀ c, Q (D c)) (k : Fin 16) : Q (laneKept D k) :=
  laneMerge_forall _ _ Q (laneMerge_forall _ _ Q (laneMerge_forall _ _ Q (laneMerge_forall _ _ Q
    (laneBatch_forall D Q h 0) (laneBatch_forall D Q h 1)) (laneBatch_forall D Q h 2)) (laneBatch_forall D Q h 3)) (laneBatch_forall D Q h 4) k

end Cert.Knn

end
-- ==== Proof.Knn.Lane.lean ====
/- One lane of a tile over the ideal values: reading the tiles of `Tile` at one row and one lane gives the lists of
   `Nets`, sixteen values with their numbers. -/
module

public import proofs.«01_k».proof.Proof.Knn.Tile
public import proofs.«01_k».proof.Proof.Knn.Nets
public import Idealize.ShloMosaic.Lib.Pointwise

@[expose] public section

noncomputable section

namespace Cert.Knn

open Idealize.ShloMosaic Idealize.ShloMosaic.SortNet Cert.KernelIdeal Cert.KernelIdeal.Gen

/-- What stands at row `i` and lane `l` of sixteen tiles. -/
def laneOf (s : Fin 16 → Pair Ideal) (i : Fin 256) (l : Fin 128) : Fin 16 → EReal × BitVec 32 := fun k =>
  ((s k).1 (ix2 i l), (s k).2 (ix2 i l))

/-- A selection by "at most" over the ideal values. -/
theorem select_ole {α : Type} (a b : EReal) (x y : α) :
    Scalar.select (FloatOps.cmpf (F := Ideal) (φ := .f32) .ole a b) x y = if a ≤ b then x else y := by
  show (if Ideal.cmp .ole a b = 1 then x else y) = _
  unfold Ideal.cmp
  by_cases h : a ≤ b <;> simp [h]

/-- The same on tiles, read at one place. -/
theorem select_ole_apply {α : Type} (a b : FVec Ideal S256x128 .f32) (x y : S256x128.Idx → α) (p : S256x128.Idx) :
    select (cmpf .ole a b) x y p = if (a p : EReal) ≤ b p then x p else y p := select_ole _ _ _ _

/-- One exchange of tiles is, at each place, one exchange of the lists there. -/
theorem laneOf_step (e : Cmpx 16) (s : Fin 16 → Pair Ideal) (i : Fin 256) (l : Fin 128) :
    laneOf (step e s) i l = Cmpx.applyBy Prod.fst e (laneOf s i l) := by
  funext k
  unfold laneOf step Cmpx.applyBy
  by_cases h1 : k = e.lo
  · simp only [if_pos h1, select_ole_apply]
    by_cases h : ((s e.lo).1 (ix2 i l) : EReal) ≤ (s e.hi).1 (ix2 i l)
    · rw [if_pos h, if_pos h, if_neg (not_lt.mpr h)]
    · rw [if_neg h, if_neg h, if_pos (not_le.mp h)]
  · by_cases h2 : k = e.hi
    · simp only [if_neg h1, if_pos h2, select_ole_apply]
      by_cases h : ((s e.lo).1 (ix2 i l) : EReal) ≤ (s e.hi).1 (ix2 i l)
      · rw [if_pos h, if_pos h, if_neg (not_lt.mpr h)]
      · rw [if_neg h, if_neg h, if_pos (not_le.mp h)]
    · simp only [if_neg h1, if_neg h2]

/-- A network of tiles is, at each place, the network of the lists there. -/
theorem laneOf_run (N : Network 16) (s : Fin 16 → Pair Ideal) (i : Fin 256) (l : Fin 128) :
    laneOf (run N s) i l = Network.applyBy Prod.fst N (laneOf s i l) := by
  induction N generalizing s with
  | nil => rfl
  | cons e N ih =>
    show laneOf (run N (step e s)) i l = _
    rw [ih, laneOf_step]
    rfl

/-- The column of chunk `c` and lane `l`. -/
def col (c : Fin 80) (l : Fin 128) : Fin 10240 := ⟨c.val * 128 + l.val, by omega⟩

/-- What chunk `c` holds at row `i` and lane `l`. -/
def entry (d : FVec Ideal S256x10240 .f32) (i : Fin 256) (l : Fin 128) (c : Fin 80) : EReal × BitVec 32 :=
  (d (ix2 i (col c l)), BitVec.ofNat 32 c.val)

/-- One lane of a chunk of the row. -/
theorem laneOf_chunk (d : FVec Ideal S256x10240 .f32) (f : Fin 16 → Fin 80) (i : Fin 256) (l : Fin 128) :
    laneOf (fun j => chunk d (f j)) i l = fun j => entry d i l (f j) := by
  funext j
  refine Prod.ext ?_ rfl
  show d _ = d _
  congr 1
  funext a
  match a with
  | ⟨0, _⟩ => exact Fin.ext (Nat.zero_add _)
  | ⟨1, _⟩ => rfl

/-- One lane of a sorted batch is the batch of that lane. -/
theorem laneOf_batch (d : FVec Ideal S256x10240 .f32) (g : Fin 5) (i : Fin 256) (l : Fin 128) :
    laneOf (batch d g) i l = laneBatch (entry d i l) g := by
  unfold batch
  rw [laneOf_run, laneOf_chunk]
  rfl

/-- One lane of a merge is the merge of that lane. -/
theorem laneOf_merge (r b : Fin 16 → Pair Ideal) (i : Fin 256) (l : Fin 128) :
    laneOf (merge r b) i l = laneMerge (laneOf r i l) (laneOf b i l) := by
  unfold merge laneMerge
  rw [laneOf_run]
  congr 1
  funext k
  unfold laneOf least
  simp only [select_ole_apply]
  by_cases h : ((r k).1 (ix2 i l) : EReal) ≤ (b k.rev).1 (ix2 i l)
  · simp only [if_pos h]
  · simp only [if_neg h]

/-- The kept tiles, at each place, are the kept lists. -/
theorem laneOf_kept (d : FVec Ideal S256x10240 .f32) (i : Fin 256) (l : Fin 128) :
    laneOf (kept d) i l = laneKept (entry d i l) := by
  unfold kept laneKept
  simp only [laneOf_merge, laneOf_batch]

/-- Before the rounds the values are the kept ones and the numbers are columns. -/
theorem laneOf_start (d : FVec Ideal S256x10240 .f32) (i : Fin 256) (l : Fin 128) (k : Fin 16) :
    laneOf (start d) i l k
      = ((laneKept (entry d i l) k).1, (laneKept (entry d i l) k).2 * 128#32 + BitVec.ofNat 32 l.val) := by
  rw [← laneOf_kept]
  unfold laneOf start
  refine Prod.ext rfl ?_
  show IntOp.addi (IntOp.muli _ _) (iota .tc S256x128 32 [1] iota_S256x128_d1_w32 (ix2 i l)) = _
  rw [show iota .tc S256x128 32 [1] iota_S256x128_d1_w32 (ix2 i l) = BitVec.ofNat 32 l.val by
    show BitVec.ofNat 32 (0 * 128 + l.val) = _
    rw [Nat.zero_mul, Nat.zero_add]]
  rfl

/-- An entry of lane `l` of row `i`: the value of one of the lane's columns with the number of that column. -/
def Own (d : FVec Ideal S256x10240 .f32) (i : Fin 256) (l : Fin 128) (e : EReal × BitVec 32) : Prop :=
  ∃ c : Fin 80, e = (d (ix2 i (col c l)), BitVec.ofNat 32 (col c l).val)

/-- At the start every entry of a lane is one of its columns: the value and the number. -/
theorem start_own (d : FVec Ideal S256x10240 .f32) (i : Fin 256) (l : Fin 128) (k : Fin 16) : Own d i l (laneOf (start d) i l k) := by
  obtain ⟨c, hc⟩ := laneKept_forall (entry d i l) (fun e => ∃ c, e = entry d i l c) (fun c => ⟨c, rfl⟩) k
  refine ⟨c, ?_⟩
  rw [laneOf_start, hc]
  refine Prod.ext rfl ?_
  show BitVec.ofNat 32 c.val * BitVec.ofNat 32 128 + BitVec.ofNat 32 l.val = BitVec.ofNat 32 (c.val * 128 + l.val)
  rw [BitVec.ofNat_add, BitVec.ofNat_mul]

/-- How many values of the lane are below `t`. -/
def laneCount (d : FVec Ideal S256x10240 .f32) (i : Fin 256) (t : EReal) (l : Fin 128) : Nat :=
  ∑ g : Fin 5, batchCount (entry d i l) t g

/-- At the start the value at depth `k` of a lane is below `t` exactly when more than `k` of the lane's columns are. -/
theorem start_rank (d : FVec Ideal S256x10240 .f32) (i : Fin 256) (l : Fin 128) (t : EReal) (k : Fin 16) :
    (laneOf (start d) i l k).1 < t ↔ k.val < laneCount d i t l := by
  rw [laneOf_start]
  exact laneKept_rank (entry d i l) t k

/-- The lanes' counts add up to the row's. -/
theorem sum_laneCount (d : FVec Ideal S256x10240 .f32) (i : Fin 256) (t : EReal) :
    ∑ l, laneCount d i t l = (Finset.univ.filter fun c : Fin 10240 => (d (ix2 i c) : EReal) < t).card := by
  unfold laneCount batchCount
  simp only [Finset.card_filter]
  let e : Fin 128 × Fin 5 × Fin 16 → Fin 10240 := fun x => ⟨(x.2.1.val * 16 + x.2.2.val) * 128 + x.1.val, by omega⟩
  have he : Function.Bijective e := by
    constructor
    · rintro ⟨l, g, j⟩ ⟨l', g', j'⟩ h
      have h' : (g.val * 16 + j.val) * 128 + l.val = (g'.val * 16 + j'.val) * 128 + l'.val := congrArg Fin.val h
      have h1 : l = l' := Fin.ext (by omega)
      have h2 : g = g' := Fin.ext (by omega)
      have h3 : j = j' := Fin.ext (by omega)
      rw [h1, h2, h3]
    · intro c
      refine ⟨(⟨c.val % 128, by omega⟩, ⟨c.val / 128 / 16, by omega⟩, ⟨c.val / 128 % 16, by omega⟩), Fin.ext ?_⟩
      show (c.val / 128 / 16 * 16 + c.val / 128 % 16) * 128 + c.val % 128 = c.val
      omega
  rw [← Fintype.sum_bijective e he (fun x => if (d (ix2 i (e x)) : EReal) < t then 1 else 0) _ fun _ => rfl,
    Fintype.sum_prod_type]
  refine Finset.sum_congr rfl fun l _ => ?_
  rw [Fintype.sum_prod_type]
  rfl

end Cert.Knn

end
-- ==== Proof.Knn.Rounds.lean ====
/- The sixteen rounds, on the values of one row: each takes the least head of the lanes' sorted lists and moves that lane's
   list up. What is taken in round `r` has exactly the rank `r`. -/
module

public import Mathlib.Order.Fin.Basic
public import Mathlib.Data.Fintype.BigOperators
public import Mathlib.Algebra.BigOperators.Fin
public import Mathlib.Algebra.Order.BigOperators.Group.Finset
public import Mathlib.Data.Finset.Max

@[expose] public section

namespace Cert.Knn

variable {α : Type*} [LinearOrder α] {L : Type*} [Fintype L] [DecidableEq L]

/-- After `r` rounds lane `l` has given `p l` entries of its list `F l`: the state holds the rest, and what was given is at most what
    any lane has at its head. -/
def Given (F s : L → Fin 16 → α) (r : Nat) (p : L → Nat) : Prop :=
  ∑ l, p l = r
    ∧ (∀ l (k : Fin 16) (h : p l + k.val < 16), s l k = F l ⟨p l + k.val, h⟩)
    ∧ ∀ l l' (h : p l < 17) (h' : p l' < 16), 0 < p l → F l ⟨p l - 1, by omega⟩ ≤ F l' ⟨p l', h'⟩

/-- Nothing is given out at the start. -/
theorem given_start (F : L → Fin 16 → α) : Given F F 0 fun _ => 0 :=
  ⟨by simp, fun l k h => by congr 1; exact Fin.ext (by simp), fun l l' h h' h0 => absurd h0 (Nat.lt_irrefl 0)⟩

/-- In `r` rounds a lane gives out at most `r` heads. -/
theorem given_le (F s : L → Fin 16 → α) (r : Nat) (p : L → Nat) (h : Given F s r p) (l : L) : p l ≤ r := by
  rw [← h.1]
  exact Finset.single_le_sum (f := p) (fun _ _ => Nat.zero_le _) (Finset.mem_univ l)

/-- A round whose winner is `w`. -/
theorem given_step (F s s' : L → Fin 16 → α) (r : Nat) (hr : r < 15) (p : L → Nat) (h : Given F s r p) (hF : ∀ l, Monotone (F l)) (w : L)
    (hw : ∀ l, s w 0 ≤ s l 0)
    (hs : ∀ l (k : Fin 16), l ≠ w → s' l k = s l k)
    (hs' : ∀ (k : Fin 16) (hk : k.val + 1 < 16), s' w k = s w ⟨k.val + 1, hk⟩) :
    Given F s' (r + 1) fun l => if l = w then p l + 1 else p l := by
  have hp := given_le F s r p h
  obtain ⟨hsum, hst, hord⟩ := h
  have hhead : ∀ l, s l 0 = F l ⟨p l, by have := hp l; omega⟩ := fun l => by
    rw [hst l 0 (by have := hp l; simp; omega)]; congr 1
  refine ⟨?_, ?_, ?_⟩
  · have e : ∀ l, (if l = w then p l + 1 else p l) = p l + (if l = w then 1 else 0) := fun l => by split <;> rfl
    simp only [e, Finset.sum_add_distrib, Finset.sum_ite_eq', Finset.mem_univ, if_true, hsum]
  · intro l k hk
    by_cases hl : l = w
    · subst hl
      simp only [if_true] at hk ⊢
      rw [hs' k (by omega), hst l _ (by simp; omega)]
      congr 1
      exact Fin.ext (by simp; omega)
    · simp only [if_neg hl] at hk ⊢
      rw [hs l k hl, hst l k hk]
  · intro l l' h17 h16 h0
    have hle : F w ⟨p w, by have := hp w; omega⟩ ≤ F l' ⟨p l', by have := hp l'; omega⟩ := by
      rw [← hhead, ← hhead]; exact hw l'
    have hup : F l' ⟨p l', by have := hp l'; omega⟩ ≤ F l' ⟨if l' = w then p l' + 1 else p l', h16⟩ :=
      hF l' (Fin.mk_le_mk.mpr (by split <;> omega))
    by_cases hl : l = w
    · subst hl
      refine le_trans (le_of_eq ?_) (hle.trans hup)
      congr 1
      exact Fin.ext (by simp)
    · simp only [if_neg hl] at h0 ⊢
      exact (hord l l' (by have := hp l; omega) (by have := hp l'; omega) h0).trans hup

/-- The least head in round `r` has the rank `r`. -/
theorem given_rank (F s : L → Fin 16 → α) (r : Nat) (hr : r < 16) (p : L → Nat) (h : Given F s r p) (m : α) (hm : ∀ l, m ≤ s l 0)
    (w : L) (hw : s w 0 = m) (t : α) (n : L → Nat) (hn : ∀ l (k : Fin 16), F l k < t ↔ k.val < n l) : m < t ↔ r < ∑ l, n l := by
  have hp := given_le F s r p h
  obtain ⟨hsum, hst, hord⟩ := h
  have hhead : ∀ l, s l 0 = F l ⟨p l, by have := hp l; omega⟩ := fun l => by
    rw [hst l 0 (by have := hp l; simp; omega)]; congr 1
  constructor
  · intro hlt
    rw [← hsum]
    refine Finset.sum_lt_sum (fun l _ => ?_) ⟨w, Finset.mem_univ w, ?_⟩
    · rcases Nat.eq_zero_or_pos (p l) with h0 | h0
      · omega
      · have h1 := hord l w (by have := hp l; omega) (by have := hp w; omega) h0
        rw [← hhead, hw] at h1
        have := (hn l _).mp (lt_of_le_of_lt h1 hlt)
        simp only at this
        omega
    · have h1 := hhead w
      rw [hw] at h1
      rw [h1] at hlt
      exact (hn w _).mp hlt
  · intro hlt
    by_contra hnot
    have : ∑ l, n l ≤ ∑ l, p l := Finset.sum_le_sum fun l _ => by
      by_contra hl
      have h1 := (hn l ⟨p l, by have := hp l; omega⟩).mpr (by simp only; omega)
      rw [← hhead] at h1
      exact hnot (lt_of_le_of_lt (hm l) h1)
    omega

/-- Lists whose entries below any `t` come first are sorted. -/
theorem monotone_of_rank (f : Fin 16 → α) (h : ∀ t, ∃ n : Nat, ∀ k : Fin 16, f k < t ↔ k.val < n) : Monotone f := fun i j hij => by
  by_contra hlt
  obtain ⟨n, hn⟩ := h (f i)
  have h1 := (hn j).mp (not_le.mp hlt)
  have h2 : ¬ i.val < n := fun h => lt_irrefl _ ((hn i).mpr h)
  have : i.val ≤ j.val := hij
  omega

end Cert.Knn
-- ==== Proof.Knn.Row.lean ====
/- The sixteen rounds over the ideal values: in every row the values they take are the row's least, in order, and each
   comes with the number of a column that holds it. -/
module

public import proofs.«01_k».proof.Proof.Knn.Lane
public import proofs.«01_k».proof.Proof.Knn.Rounds
public import Idealize.ShloMosaic.Lib.SortNet.Extract

@[expose] public section

noncomputable section

namespace Cert.Knn

open Idealize.ShloMosaic Idealize.ShloMosaic.SortNet Cert.KernelIdeal Cert.KernelIdeal.Gen

/-- The least of finitely many values, folded from the top. -/
theorem min_fold (f : Fin 128 → EReal) (m : EReal) (hm : m = Finset.univ.fold min ⊤ f) : (∀ l, m ≤ f l) ∧ ∃ l, f l = m := by
  have h1 : ∀ l, m ≤ f l := fun l => ((Finset.le_fold_min m).mp hm.le).2 l (Finset.mem_univ l)
  refine ⟨h1, ?_⟩
  rcases (Finset.fold_min_le m).mp hm.ge with h | ⟨l, _, h⟩
  · exact ⟨0, le_antisymm (le_top.trans h) (h1 0)⟩
  · exact ⟨l, le_antisymm h (h1 l)⟩

/-- The least of finitely many words read as signed, folded from `b`. -/
theorem minsi_fold (op : BitVec 32 → BitVec 32 → BitVec 32) [Std.Commutative op] [Std.Associative op]
    (hop : ∀ a b, (op a b).toInt = min a.toInt b.toInt) (b : BitVec 32) (f : Fin 128 → BitVec 32) (S : Finset (Fin 128)) :
    (∀ l ∈ S, (S.fold op b f).toInt ≤ (f l).toInt) ∧ (S.fold op b f = b ∨ ∃ l ∈ S, S.fold op b f = f l) := by
  have pick : ∀ a c, op a c = a ∨ op a c = c := fun a c => by
    rcases min_choice a.toInt c.toInt with h | h
    · exact .inl (BitVec.eq_of_toInt_eq ((hop a c).trans h))
    · exact .inr (BitVec.eq_of_toInt_eq ((hop a c).trans h))
  induction S using Finset.induction_on with
  | empty => exact ⟨fun l h => absurd h (Finset.notMem_empty l), .inl (Finset.fold_empty ..)⟩
  | insert a S ha ih =>
    rw [Finset.fold_insert ha]
    refine ⟨fun l hl => ?_, ?_⟩
    · rw [hop]
      rcases Finset.mem_insert.mp hl with h | h
      · rw [h]; exact min_le_left _ _
      · exact (min_le_right _ _).trans (ih.1 l h)
    · rcases pick (f a) (S.fold op b f) with h | h
      · exact .inr ⟨a, Finset.mem_insert_self a S, h⟩
      · rw [h]
        rcases ih.2 with h' | ⟨l, hl, h'⟩
        · exact .inl h'
        · exact .inr ⟨l, Finset.mem_insert_of_mem hl, h'⟩

/-- The least head of a row, as a fold over its lanes. -/
theorem rowMin_apply (s : Fin 16 → Pair Ideal) (i : Fin 256) :
    rowMin s (ix2 i 0) = Finset.univ.fold min (⊤ : EReal) fun l : Fin 128 => (s 0).1 (ix2 i l) := by
  pointwise [rowMin]
  rw [show Ideal.ofBits FTy.f32 2139095040#32 = ⊤ by simp [Ideal.ofBits, Ideal.ieee]]

/-- A lane is eligible where its head is the least. -/
theorem elig_apply (s : Fin 16 → Pair Ideal) (i : Fin 256) (l : Fin 128) :
    elig s (ix2 i l) = Ideal.cmp .oeq ((s 0).1 (ix2 i l)) (rowMin s (ix2 i 0)) := by
  unfold elig
  generalize rowMin s = v
  pointwise

/-- The number given out, as a fold over the lanes. -/
theorem rowNum_apply (s : Fin 16 → Pair Ideal) (i : Fin 256) :
    rowNum s (ix2 i 0) = Finset.univ.fold IntOp.minsi 2147483647#32
      fun l : Fin 128 => Scalar.select (elig s (ix2 i l)) ((s 0).2 (ix2 i l)) 10240#32 := by
  unfold rowNum
  generalize elig s = v
  pointwise

/-- A lane wins where it is eligible and its number is the one given out. -/
theorem won_apply (s : Fin 16 → Pair Ideal) (i : Fin 256) (l : Fin 128) :
    won s (ix2 i l) = IntOp.andi (elig s (ix2 i l)) (IntOp.cmpi .eq ((s 0).2 (ix2 i l)) (rowNum s (ix2 i 0))) := by
  unfold won
  generalize elig s = v
  generalize rowNum s = u
  pointwise

/-- A lane is eligible exactly when its head is the least. -/
theorem elig_iff (s : Fin 16 → Pair Ideal) (i : Fin 256) (l : Fin 128) :
    elig s (ix2 i l) = 1#1 ↔ ((s 0).1 (ix2 i l) : EReal) = rowMin s (ix2 i 0) := by
  rw [elig_apply]
  unfold Ideal.cmp
  by_cases h : ((s 0).1 (ix2 i l) : EReal) = rowMin s (ix2 i 0) <;> simp [h]

/-- A lane wins exactly when its head is the least and its number is the one given out. -/
theorem won_iff (s : Fin 16 → Pair Ideal) (i : Fin 256) (l : Fin 128) :
    won s (ix2 i l) = 1#1 ↔ ((s 0).1 (ix2 i l) : EReal) = rowMin s (ix2 i 0) ∧ (s 0).2 (ix2 i l) = rowNum s (ix2 i 0) := by
  rw [won_apply, ← elig_iff]
  have h : ∀ (a : BitVec 1) (x y : BitVec 32), IntOp.andi a (IntOp.cmpi .eq x y) = 1#1 ↔ a = 1#1 ∧ x = y := fun a x y => by
    have hc : IntOp.cmpi .eq x y = if x = y then 1#1 else 0#1 := by
      by_cases h : x = y
      · simp [IntOp.cmpi, h]
      · show BitVec.ofBool (x == y) = _
        rw [beq_eq_false_iff_ne.mpr h, if_neg h]; rfl
    rw [hc]
    by_cases h : x = y
    · rw [if_pos h]
      show a &&& 1#1 = 1#1 ↔ _
      revert a; simp only [h, and_true]; decide
    · rw [if_neg h]
      show a &&& 0#1 = 1#1 ↔ _
      revert a; simp only [h, and_false, iff_false]; decide
  exact h _ _ _

/-- The number of a column read as signed. -/
theorem toInt_col (c : Fin 10240) : (BitVec.ofNat 32 c.val).toInt = c.val := by
  have := c.isLt
  rw [BitVec.toInt_ofNat', Int.bmod_eq_of_le (by omega) (by omega)]

/-- One round of a row: exactly one lane wins, its value is the row's least and the round's number is its number. -/
theorem round_wins (d : FVec Ideal S256x10240 .f32) (s : Fin 16 → Pair Ideal) (i : Fin 256)
    (own : ∀ l k, Own d i l (laneOf s i l k)) :
    (∀ l, rowMin s (ix2 i 0) ≤ (laneOf s i l 0).1)
      ∧ ∃ w, (laneOf s i w 0).1 = rowMin s (ix2 i 0) ∧ (laneOf s i w 0).2 = rowNum s (ix2 i 0)
        ∧ ∀ l, won s (ix2 i l) = 1#1 ↔ l = w := by
  obtain ⟨hle, l0, hl0⟩ := min_fold (fun l => (s 0).1 (ix2 i l)) _ (rowMin_apply s i)
  refine ⟨hle, ?_⟩
  obtain ⟨hn, hn'⟩ := minsi_fold IntOp.minsi SortNet.toInt_minsi 2147483647#32
    (fun l : Fin 128 => Scalar.select (elig s (ix2 i l)) ((s 0).2 (ix2 i l)) 10240#32) Finset.univ
  rw [← rowNum_apply] at hn hn'
  have low : (rowNum s (ix2 i 0)).toInt < 10240 := by
    have h : (rowNum s (ix2 i 0)).toInt ≤ (Scalar.select (elig s (ix2 i l0)) ((s 0).2 (ix2 i l0)) 10240#32).toInt := hn l0 (Finset.mem_univ _)
    obtain ⟨c, hc⟩ := own l0 0
    have h2 : (s 0).2 (ix2 i l0) = BitVec.ofNat 32 (col c l0).val := congrArg Prod.snd hc
    have h3 : Scalar.select (elig s (ix2 i l0)) ((s 0).2 (ix2 i l0)) 10240#32 = (s 0).2 (ix2 i l0) :=
      if_pos ((elig_iff s i l0).mpr hl0)
    rw [h3, h2, toInt_col] at h
    have := (col c l0).isLt
    omega
  obtain ⟨w, hw⟩ : ∃ w, ((s 0).1 (ix2 i w) : EReal) = rowMin s (ix2 i 0) ∧ (s 0).2 (ix2 i w) = rowNum s (ix2 i 0) := by
    rcases hn' with h | ⟨w, _, h⟩
    · rw [h] at low
      exact absurd low (by decide)
    · by_cases he : elig s (ix2 i w) = 1#1
      · exact ⟨w, (elig_iff s i w).mp he, (h.trans (if_pos he)).symm⟩
      · rw [h.trans (if_neg he)] at low
        exact absurd low (by decide)
  refine ⟨w, hw.1, hw.2, fun l => ⟨fun h => ?_, fun h => h ▸ (won_iff s i w).mpr hw⟩⟩
  have h1 := ((won_iff s i l).mp h).2.trans hw.2.symm
  obtain ⟨c, hc⟩ := own l 0
  obtain ⟨c', hc'⟩ := own w 0
  have e1 : (s 0).2 (ix2 i l) = BitVec.ofNat 32 (col c l).val := congrArg Prod.snd hc
  have e2 : (s 0).2 (ix2 i w) = BitVec.ofNat 32 (col c' w).val := congrArg Prod.snd hc'
  have e3 := congrArg BitVec.toInt ((e1.symm.trans h1).trans e2)
  rw [toInt_col, toInt_col] at e3
  have e4 : c.val * 128 + l.val = c'.val * 128 + w.val := Int.ofNat.inj e3
  exact Fin.ext (by omega)

/-- A round leaves the lanes that do not win, -/
theorem shift_other (s : Fin 16 → Pair Ideal) (i : Fin 256) (l : Fin 128) (h : won s (ix2 i l) ≠ 1#1) (k : Fin 16) :
    laneOf (shift s) i l k = laneOf s i l k := by
  unfold laneOf shift
  by_cases hk : k.val + 1 < 16
  · simp only [dif_pos hk]
    exact Prod.ext (if_neg h) (if_neg h)
  · simp only [dif_neg hk]

/-- and moves up the list of the lane that does. -/
theorem shift_won (s : Fin 16 → Pair Ideal) (i : Fin 256) (l : Fin 128) (h : won s (ix2 i l) = 1#1) (k : Fin 16) :
    laneOf (shift s) i l k = if hk : k.val + 1 < 16 then laneOf s i l ⟨k.val + 1, hk⟩ else laneOf s i l k := by
  by_cases hk : k.val + 1 < 16
  · rw [dif_pos hk]
    unfold laneOf shift
    simp only [dif_pos hk]
    exact Prod.ext (if_pos h) (if_pos h)
  · rw [dif_neg hk]
    unfold laneOf shift
    simp only [dif_neg hk]

/-- The values of the lanes before round `r`. -/
def heads (d : FVec Ideal S256x10240 .f32) (i : Fin 256) (r : Nat) (l : Fin 128) (k : Fin 16) : EReal := (laneOf (round d r) i l k).1

/-- The values of a lane ascend. -/
theorem start_monotone (d : FVec Ideal S256x10240 .f32) (i : Fin 256) (l : Fin 128) : Monotone (heads d i 0 l) :=
  monotone_of_rank _ fun t => ⟨laneCount d i t l, start_rank d i l t⟩

/-- What holds before every round: `r` entries are given out, and every entry is one of its lane. -/
theorem before_round (d : FVec Ideal S256x10240 .f32) (i : Fin 256) (r : Nat) (hr : r < 16) :
    (∃ p, Given (heads d i 0) (heads d i r) r p) ∧ ∀ l k, Own d i l (laneOf (round d r) i l k) := by
  induction r with
  | zero => exact ⟨⟨_, given_start _⟩, start_own d i⟩
  | succ r ih =>
    obtain ⟨⟨p, hp⟩, own⟩ := ih (by omega)
    obtain ⟨hle, w, hw, _, hwon⟩ := round_wins d (round d r) i own
    have other : ∀ l k, l ≠ w → laneOf (round d (r + 1)) i l k = laneOf (round d r) i l k := fun l k hl =>
      shift_other _ i l (fun h => hl ((hwon l).mp h)) k
    refine ⟨⟨_, given_step _ _ (heads d i (r + 1)) r (by omega) p hp (start_monotone d i) w (fun l => hw.trans_le (hle l))
      (fun l k hl => congrArg Prod.fst (other l k hl)) fun k hk => ?_⟩, fun l k => ?_⟩
    · have h := shift_won (round d r) i w ((hwon w).mpr rfl) k
      rw [dif_pos hk] at h
      exact congrArg Prod.fst h
    · by_cases hl : l = w
      · subst hl
        show Own d i l (laneOf (shift (round d r)) i l k)
        rw [shift_won (round d r) i l ((hwon l).mpr rfl) k]
        split
        · exact own l _
        · exact own l k
      · rw [other l k hl]; exact own l k

/-- The value of round `r` is below `t` if and only if more than `r` of the row's values are. -/
theorem row_rank (d : FVec Ideal S256x10240 .f32) (i : Fin 256) (r : Nat) (hr : r < 16) (t : EReal) :
    (rowMin (round d r) (ix2 i 0) : EReal) < t ↔ r < (Finset.univ.filter fun c : Fin 10240 => (d (ix2 i c) : EReal) < t).card := by
  obtain ⟨⟨p, hp⟩, own⟩ := before_round d i r hr
  obtain ⟨hle, w, hw, _, _⟩ := round_wins d (round d r) i own
  rw [← sum_laneCount]
  exact given_rank _ _ r hr p hp _ hle w hw t _ fun l k => start_rank d i l t k

/-- The number of round `r` is a column that holds its value. -/
theorem row_col (d : FVec Ideal S256x10240 .f32) (i : Fin 256) (r : Nat) (hr : r < 16) :
    ∃ c : Fin 10240, (d (ix2 i c) : EReal) = rowMin (round d r) (ix2 i 0) ∧ rowNum (round d r) (ix2 i 0) = BitVec.ofNat 32 c.val := by
  obtain ⟨_, own⟩ := before_round d i r hr
  obtain ⟨_, w, hw, hn, _⟩ := round_wins d (round d r) i own
  obtain ⟨c, hc⟩ := own w 0
  exact ⟨col c w, (congrArg Prod.fst hc).symm.trans hw, hn.symm.trans (congrArg Prod.snd hc)⟩

end Cert.Knn

end
-- ==== Proof.Knn.Near.lean ====
/- One query against every key: the distances the kernel ranks are the distances of the points, and ⊤ at the padding. -/
module

public import proofs.«01_k».proof.Proof.Knn.Dist
public import proofs.«01_k».proof.Proof.Knn.Row

@[expose] public section

noncomputable section

namespace Cert.Knn

open Idealize.ShloMosaic Cert.KernelIdeal Cert.KernelIdeal.Gen

/-- The three squares and the three products of a query with a key, as sums. -/
theorem three (a b : Fin 3 → EReal) : a 0 * b 0 + a 1 * b 1 + a 2 * b 2 = ∑ k, a k * b k := (Fin.sum_univ_three fun k => a k * b k).symm

/-- A sum of squares is not ⊥. -/
theorem square_sum_ne_bot (a : Fin 3 → EReal) : ∑ k, a k * a k ≠ ⊥ := by
  have h : (0 : EReal) ≤ ∑ k, a k * a k := Finset.sum_nonneg fun k _ => square_nonneg (a k)
  exact fun e => absurd (e ▸ h) (by simp)

/-- The word of infinity is ⊤. -/
theorem inf_bits : Ideal.ofBits .f32 0x7F800000#32 = ⊤ := by simp [Ideal.ofBits, Ideal.ieee]

/-- A column below 10000 is a point, -/
theorem sge_inside (c : Fin 10240) (h : c.val < 10000) : IntOp.cmpi .sge (BitVec.ofNat 32 c.val) 10000#32 = 0#1 := by
  have h1 : (BitVec.ofNat 32 c.val).toInt = c.val := by rw [BitVec.toInt_eq_toNat_of_lt] <;> simp <;> omega
  have h2 : (10000#32).toInt = 10000 := rfl
  show BitVec.ofBool (BitVec.sle (10000#32) (BitVec.ofNat 32 c.val)) = 0#1
  rw [BitVec.sle_eq_decide, h1, h2, decide_eq_false (by omega)]
  rfl

/-- and from 10000 on it is padding. -/
theorem sge_outside (c : Fin 10240) (h : 10000 ≤ c.val) : IntOp.cmpi .sge (BitVec.ofNat 32 c.val) 10000#32 = 1#1 := by
  have h1 : (BitVec.ofNat 32 c.val).toInt = c.val := by rw [BitVec.toInt_eq_toNat_of_lt] <;> simp <;> omega
  have h2 : (10000#32).toInt = 10000 := rfl
  show BitVec.ofBool (BitVec.sle (10000#32) (BitVec.ofNat 32 c.val)) = 1#1
  rw [BitVec.sle_eq_decide, h1, h2, decide_eq_true (by omega)]
  rfl

/-- The value at a column below 10000: the squared distance. -/
theorem near_inside (a b : Fin 3 → EReal) (c : Fin 10240) (hc : c.val < 10000) (q k : Fin 128 → EReal)
    (hq : ∀ e : Fin 3, q (e.castLE (by omega)) = a e) (hk : ∀ e : Fin 3, k (e.castLE (by omega)) = b e) (h0 : ∀ e, 3 ≤ e.val → q e = 0) :
    ((q 0 * q 0 + q 1 * q 1 + q 2 * q 2)
        + Scalar.select (IntOp.cmpi .sge (BitVec.ofNat 32 c.val) 10000#32) (Ideal.ofBits .f32 0x7F800000#32) (k 0 * k 0 + k 1 * k 1 + k 2 * k 2))
      - Ideal.ofBits .f32 0x40000000#32 * ∑ e : Fin 128, q e * k e = dist2 a b := by
  have q0 := hq 0; have q1 := hq 1; have q2 := hq 2
  have k0 := hk 0; have k1 := hk 1; have k2 := hk 2
  have q0' : q 0 = a 0 := q0
  have q1' : q 1 = a 1 := q1
  have q2' : q 2 = a 2 := q2
  have k0' : k 0 = b 0 := k0
  have k1' : k 1 = b 1 := k1
  have k2' : k 2 = b 2 := k2
  rw [sge_inside c hc, sum_three (fun e => q e * k e) (fun e he => by rw [h0 e he, zero_mul])]
  simp only [hq, hk]
  rw [q0', q1', q2', k0', k1', k2', three, three]
  rfl

/-- The value at the padding: ⊤, for the keys are 0 there. -/
theorem near_outside (a : Fin 3 → EReal) (c : Fin 10240) (hc : 10000 ≤ c.val) (q k : Fin 128 → EReal) (s : EReal)
    (hq : ∀ e : Fin 3, q (e.castLE (by omega)) = a e) (h0 : ∀ e, k e = 0) :
    ((q 0 * q 0 + q 1 * q 1 + q 2 * q 2)
        + Scalar.select (IntOp.cmpi .sge (BitVec.ofNat 32 c.val) 10000#32) (Ideal.ofBits .f32 0x7F800000#32) s)
      - Ideal.ofBits .f32 0x40000000#32 * ∑ e : Fin 128, q e * k e = ⊤ := by
  have q0' : q 0 = a 0 := hq 0
  have q1' : q 1 = a 1 := hq 1
  have q2' : q 2 = a 2 := hq 2
  rw [sge_outside c hc, Finset.sum_eq_zero (fun e _ => by rw [h0 e, mul_zero]), mul_zero, sub_zero, q0', q1', q2', three, inf_bits]
  exact EReal.add_top_of_ne_bot (square_sum_ne_bot a)

/-- The tiles of the sixteen rounds, read at one place. -/
theorem valTile_apply (d : FVec Ideal S256x10240 .f32) (i : Fin 256) (r : Fin 16) :
    valTile d (ix2 i r) = rowMin (round d r.val) (ix2 i (0 : Fin 1)) := by
  unfold valTile
  refine concatenate_ofFn_unit_apply (s₁ := S256x1) (t := S256x16) 1 (fun r : Fin 16 => rowMin (round d r.val)) _ rfl rfl (ix2 i r) r rfl (ix2 i (0 : Fin 1)) fun b hb => by
    match b with
    | ⟨0, _⟩ => rfl
    | ⟨1, _⟩ => exact absurd rfl hb

/-- The numbers written, at one place. -/
theorem numTile_apply (d : FVec Ideal S256x10240 .f32) (i : Fin 256) (r : Fin 16) :
    numTile d (ix2 i r) = rowNum (round d r.val) (ix2 i (0 : Fin 1)) := by
  unfold numTile
  refine concatenate_ofFn_unit_apply (s₁ := S256x1) (t := S256x16) 1 (fun r : Fin 16 => rowNum (round d r.val)) _ rfl rfl (ix2 i r) r rfl (ix2 i (0 : Fin 1)) fun b hb => by
    match b with
    | ⟨0, _⟩ => rfl
    | ⟨1, _⟩ => exact absurd rfl hb

/-- The distance written: the square root of the value, or of 0 if that is greater. -/
theorem distTile_apply (d : FVec Ideal S256x10240 .f32) (i : Fin 256) (r : Fin 16) :
    distTile d (ix2 i r) = Ideal.sqrt (max (valTile d (ix2 i r)) (Ideal.ofBits .f32 0x00000000#32)) := rfl

/-- The row number written. -/
theorem row_apply (t : Nat) (i : Fin 256) (r : Fin 16) :
    k0_pay1 (BitVec.ofNat 32 t) (ix2 i r) = BitVec.ofNat 32 (t * 256 + i.val) := by
  have h : k0_pay1 (BitVec.ofNat 32 t) (ix2 i r) = BitVec.ofNat 32 t * 256#32 + BitVec.ofNat 32 i.val := by
    pointwise [k0_pay1]
    rfl
  rw [h, BitVec.ofNat_add, BitVec.ofNat_mul]

end Cert.Knn

end
-- ==== Proof.Knn.Agree.lean ====
/- Two ways to take the least of a list agree: by rank in the list padded with infinities, and by a sorted order of the list. -/
module

public import proofs.«01_k».proof.Proof.Knn.Nets
public import Mathlib.Data.EReal.Basic

@[expose] public section

namespace Cert.Knn

variable {N M : Nat} (hNM : N ≤ M)

/-- Infinities at the end add nothing to the count of what is below `t`. -/
theorem count_pad (e : Fin N → EReal) (dk : Fin M → EReal) (h1 : ∀ c : Fin N, dk (c.castLE hNM) = e c)
    (h2 : ∀ c : Fin M, N ≤ c.val → dk c = ⊤) (t : EReal) :
    (Finset.univ.filter fun c => dk c < t).card = (Finset.univ.filter fun c => e c < t).card := by
  rw [← Finset.card_image_of_injective (Finset.univ.filter fun c => e c < t) (Fin.castLE_injective hNM)]
  congr 1
  ext c
  simp only [Finset.mem_filter, Finset.mem_univ, true_and, Finset.mem_image]
  constructor
  · intro h
    by_cases hc : c.val < N
    · exact ⟨⟨c.val, hc⟩, by rw [← h1]; exact h, rfl⟩
    · rw [h2 c (by omega)] at h
      exact absurd h not_top_lt
  · rintro ⟨c', h, rfl⟩
    rw [h1]; exact h

/-- The rank of a sorted list's entries in the list. -/
theorem sorted_rank (e : Fin N → EReal) (π : Fin N → Fin N) (hπ : Function.Bijective π)
    (hm : ∀ a b, a ≤ b → e (π a) ≤ e (π b)) (r : Fin N) (t : EReal) :
    e (π r) < t ↔ r.val < (Finset.univ.filter fun c => e c < t).card := by
  rw [lt_iff_lt_count (fun a => e (π a)) (fun a b h => hm a b h) t r]
  have : (Finset.univ.filter fun a => e (π a) < t).card = (Finset.univ.filter fun c => e c < t).card := by
    rw [← Finset.card_image_of_injective _ hπ.1]
    congr 1
    ext c
    simp only [Finset.mem_filter, Finset.mem_univ, true_and, Finset.mem_image]
    constructor
    · rintro ⟨a, h, rfl⟩; exact h
    · intro h
      obtain ⟨a, rfl⟩ := hπ.2 c
      exact ⟨a, h, rfl⟩
  rw [this]

/-- The value of rank `r` among the padded list is the sorted list's `r`-th. -/
theorem agree_value (e : Fin N → EReal) (dk : Fin M → EReal) (h1 : ∀ c : Fin N, dk (c.castLE hNM) = e c)
    (h2 : ∀ c : Fin M, N ≤ c.val → dk c = ⊤) (π : Fin N → Fin N) (hπ : Function.Bijective π)
    (hm : ∀ a b, a ≤ b → e (π a) ≤ e (π b)) (r : Fin N) (m : EReal)
    (h : ∀ t, m < t ↔ r.val < (Finset.univ.filter fun c => dk c < t).card) : m = e (π r) :=
  eq_of_forall_gt_iff fun t => by rw [h t, count_pad hNM e dk h1 h2, ← sorted_rank e π hπ hm]

/-- A column that holds a value told apart from its neighbours is the sorted list's own. -/
theorem agree_col (e : Fin N → EReal) (dk : Fin M → EReal) (h1 : ∀ c : Fin N, dk (c.castLE hNM) = e c)
    (h2 : ∀ c : Fin M, N ≤ c.val → dk c = ⊤) (π : Fin N → Fin N) (hπ : Function.Bijective π)
    (hm : ∀ a b, a ≤ b → e (π a) ≤ e (π b)) (r : Nat) (hr : r + 1 < N) (c : Fin M) (hc : dk c = e (π ⟨r, by omega⟩))
    (after : e (π ⟨r, by omega⟩) < e (π ⟨r + 1, hr⟩))
    (before : ∀ h : 0 < r, e (π ⟨r - 1, by omega⟩) < e (π ⟨r, by omega⟩)) : c.val = (π ⟨r, by omega⟩).val := by
  by_cases hlt : c.val < N
  · obtain ⟨s, hs⟩ := hπ.2 ⟨c.val, hlt⟩
    have e1 : e (π s) = e (π ⟨r, by omega⟩) := by rw [hs, ← h1]; exact hc
    rcases lt_trichotomy s.val r with h | h | h
    · have := hm s ⟨r - 1, by omega⟩ (Fin.le_def.mpr (by show s.val ≤ r - 1; omega))
      exact absurd e1 (this.trans_lt (before (by omega))).ne
    · have : s = ⟨r, by omega⟩ := Fin.ext h
      rw [← this, hs]
    · have := hm ⟨r + 1, hr⟩ s (Fin.le_def.mpr (by show r + 1 ≤ s.val; omega))
      exact absurd e1 (after.trans_le this).ne'
  · rw [h2 c (by omega)] at hc
    rw [← hc] at after
    exact absurd after not_top_lt

end Cert.Knn
-- ==== Proof.Knn.RefDist.lean ====
/- The reference's squared distances at one place. -/
module

public import proofs.«01_k».proof.Proof.Gen.ReferenceIdeal.Run
public import proofs.«01_k».proof.Proof.Knn.Dist

@[expose] public section

noncomputable section

namespace Cert.Knn

open Idealize.ShloMosaic Cert.ReferenceIdeal Cert.ReferenceIdeal.Gen Cert.ReferenceIdeal.Facts

/-- The reference's squared distances of all pairs of points. -/
def refDist (x : FVec Ideal S10000x3 .f32) : FVec Ideal S10000x10000 .f32 :=
  subf (addf (broadcastInDim S10000x10000 ![0, 1] bcast_S10000x1_S10000x10000_0_1 (broadcastInDim S10000x1 ![0] bcast_S10000_S10000x1_0 (Host.reduceAdd (mulf x x) (constant S_ .f32 0x00000000#32) reducesTo_S10000x3_S10000_d1 h_S_))) (broadcastInDim S10000x10000 ![0, 1] bcast_S1x10000_S10000x10000_0_1 (broadcastInDim S1x10000 ![1] bcast_S10000_S1x10000_1 (Host.reduceAdd (mulf x x) (constant S_ .f32 0x00000000#32) reducesTo_S10000x3_S10000_d1 h_S_)))) (mulf (broadcastInDim S10000x10000 ![] bcast_S_S10000x10000 (constant S_ .f32 0x40000000#32)) (Host.dotGeneral dot_S10000x3_S3x10000_S10000x10000_1_0_0_1_n_n none x (transpose S3x10000 [1, 0] x transposes_S10000x3_S3x10000_1_0)))

/-- Its entry is the squared distance of the two points. -/
theorem refDist_apply (x : FVec Ideal S10000x3 .f32) (p c : Fin 10000) :
    refDist x (ix2 p c) = dist2 (fun k => x (ix2 p k)) (fun k => x (ix2 c k)) := by
  unfold dist2
  pointwise [refDist]

end Cert.Knn

end
-- ==== Proof.Knn.TopK.lean ====
/- The reference's selection: its values along a row are the row's values from the greatest on, its numbers their places. -/
module

public import Idealize.ShloMosaic.Lib.Pointwise
public import Idealize.ShloMosaic.Lib.SortFacts

@[expose] public section

noncomputable section

namespace Cert.Knn

open Idealize.ShloMosaic

variable {n : Nat}

/-- The shape of all the distances, -/
abbrev Square (n : Nat) : Shape := ⟨2, ![n, n]⟩
/-- and of the first `K` of each row. -/
abbrev First (n K : Nat) : Shape := ⟨2, ![n, K]⟩

/-- The places of row `p` from the greatest value on. -/
def order (x : (Square n).Idx → EReal) (p : Fin n) : Fin n → Fin n :=
  sortedFrom fun k k' => Ideal.cmp .ogt (x (ix2 p k)) (x (ix2 p k')) == 1#1

/-- The entries beside one entry of a matrix, along its row. -/
theorem along_row (p k k' : Fin n) : Shape.Idx.along (s := Square n) (ix2 p k') 1 k = ix2 p k := by
  funext a
  match a with
  | ⟨0, _⟩ => rfl
  | ⟨1, _⟩ => rfl

/-- The order of that row. -/
theorem along_order (x : (Square n).Idx → EReal) (p k : Fin n) :
    sortedFrom (fun a b : Fin n => Ideal.cmp .ogt (x (Shape.Idx.along (s := Square n) (ix2 p k) 1 a))
      (x (Shape.Idx.along (s := Square n) (ix2 p k) 1 b)) == 1#1) k = order x p k := by
  unfold order
  congr 1
  funext a b
  rw [along_row, along_row]

/-- The sort of a matrix along its rows, at one place. -/
theorem sort_row (x : (Square n).Idx → EReal) (y : IVec (Square n) 32) (p k : Fin n) :
    (Host.sort2 (Square n) 1 (fun l r => Ideal.cmp .ogt l.1 r.1) x y).1 (ix2 p k) = x (ix2 p (order x p k))
      ∧ (Host.sort2 (Square n) 1 (fun l r => Ideal.cmp .ogt l.1 r.1) x y).2 (ix2 p k) = y (ix2 p (order x p k)) := by
  unfold Host.sort2
  rw [dif_pos (by show 1 < 2; omega)]
  exact ⟨congrArg x ((along_row p _ k).trans (congrArg (ix2 p) (along_order x p k))),
    congrArg y ((along_row p _ k).trans (congrArg (ix2 p) (along_order x p k)))⟩

/-- The first columns of a matrix, at one place. -/
theorem first_apply {α : Type} {K : Nat} (hK : K ≤ n) (v : (Square n).Idx → α) (h : (Square n).Slices (fun _ => 0) (First n K)) (p : Fin n)
    (r : Fin K) : extractStridedSlice (First n K) (fun _ => 0) v h (ix2 p r) = v (ix2 p (r.castLE hK)) :=
  congrArg v (funext fun a => match a with
    | ⟨0, _⟩ => Fin.ext (Nat.zero_add _)
    | ⟨1, _⟩ => Fin.ext (Nat.zero_add _))

/-- The `r`-th value of the selection and its number. -/
theorem topK_apply {K : Nat} (hK : K ≤ n) (x : (Square n).Idx → EReal) (h : (Square n).Slices (fun _ => 0) (First n K)) (p : Fin n) (r : Fin K) :
    (Host.topK (First n K) 1 (FloatOps.cmpfTotal (F := Ideal) (φ := .f32) .gt) x h).1 (ix2 p r) = x (ix2 p (order x p (r.castLE hK)))
      ∧ (Host.topK (First n K) 1 (FloatOps.cmpfTotal (F := Ideal) (φ := .f32) .gt) x h).2 (ix2 p r)
        = BitVec.ofNat 32 (order x p (r.castLE hK)).val := by
  unfold Host.topK
  simp only [first_apply hK]
  exact ⟨(sort_row x _ p _).1, (sort_row x _ p _).2⟩

/-- The comparison's bit, as a decision. -/
theorem cmp_ogt (a b : EReal) : (Ideal.cmp .ogt a b == 1#1) = decide (b < a) := by
  unfold Ideal.cmp
  by_cases h : b < a <;> simp [h]

/-- The order names every place once. -/
theorem order_bijective (x : (Square n).Idx → EReal) (p : Fin n) : Function.Bijective (order x p) :=
  ⟨sortedFrom_injective _, sortedFrom_surjective _⟩

/-- The entries in order descend. -/
theorem order_antitone (x : (Square n).Idx → EReal) (p : Fin n) (a b : Fin n) (hab : a ≤ b) :
    x (ix2 p (order x p b)) ≤ x (ix2 p (order x p a)) := by
  rcases eq_or_lt_of_le hab with h | h
  · rw [h]
  · have := sortedFrom_noInversion (fun k k' => Ideal.cmp .ogt (x (ix2 p k)) (x (ix2 p k')) == 1#1)
      (fun k k' => Ideal.cmp .ogt (x (ix2 p k)) (x (ix2 p k')) == 1#1)
      (fun a b h => by
        simp only [cmp_ogt, decide_eq_true_eq, decide_eq_false_iff_not] at h ⊢
        exact lt_asymm h)
      (fun a b h => h)
      (fun a b c h1 h2 => by
        simp only [cmp_ogt, decide_eq_false_iff_not, not_lt] at h1 h2 ⊢
        exact h1.trans h2) a b h
    have h2 : (Ideal.cmp .ogt (x (ix2 p (order x p b))) (x (ix2 p (order x p a))) == 1#1) = false := this
    rw [cmp_ogt, decide_eq_false_iff_not, not_lt] at h2
    exact h2

end Cert.Knn

end
-- ==== Proof.Knn.Ref.lean ====
/- The reference at one place: the points in order of distance, and its results through that order. -/
module

public import proofs.«01_k».proof.Proof.Knn.RefDist
public import proofs.«01_k».proof.Proof.Knn.TopK

@[expose] public section

noncomputable section

namespace Cert.Knn

open Idealize.ShloMosaic Idealize.ShloMosaic.StableHlo Idealize.SL.Sem Cert.ReferenceIdeal Cert.ReferenceIdeal.Gen Cert.ReferenceIdeal.Facts

variable (x : FVec Ideal S10000x3 .f32)

/-- The points in order of their distance from point `p`, nearest first. -/
def near (p : Fin 10000) : Fin 10000 → Fin 10000 := order (n := 10000) (Host.negf (refDist x)) p

/-- Every point stands in the order once. -/
theorem near_bijective (p : Fin 10000) : Function.Bijective (near x p) := order_bijective _ p

/-- The distances of the order ascend. -/
theorem near_monotone (p a b : Fin 10000) (h : a ≤ b) : refDist x (ix2 p (near x p a)) ≤ refDist x (ix2 p (near x p b)) := by
  have e : -(refDist x (ix2 p (near x p b)) : EReal) ≤ -(refDist x (ix2 p (near x p a)) : EReal) :=
    order_antitone (n := 10000) (Host.negf (refDist x)) p a b h
  exact EReal.neg_le_neg_iff.mp e

/-- The sixteen greatest of the negated distances, and where they stand. -/
def refTop : FVec Ideal S10000x16 .f32 × IVec S10000x16 32 :=
  Host.topK S10000x16 1 (FloatOps.cmpfTotal .gt) (Host.negf (refDist x)) sliceFits_S10000x10000_S10000x16

/-- The value of a rank is minus the distance of that rank. -/
theorem refTop_value (p : Fin 10000) (r : Fin 16) : (refTop x).1 (ix2 p r) = -(refDist x (ix2 p (near x p (r.castLE (by omega)))) : EReal) :=
  (topK_apply (n := 10000) (K := 16) (by omega) (Host.negf (refDist x)) sliceFits_S10000x10000_S10000x16 p r).1

/-- The number of a rank is the point of that rank. -/
theorem refTop_col (p : Fin 10000) (r : Fin 16) : (refTop x).2 (ix2 p r) = BitVec.ofNat 32 (near x p (r.castLE (by omega))).val :=
  (topK_apply (n := 10000) (K := 16) (by omega) (Host.negf (refDist x)) sliceFits_S10000x10000_S10000x16 p r).2

/-- The reference's distances, -/
def refOut : FVec Ideal S10000x16 .f32 :=
  Host.sqrt (maximumf (Host.negf (refTop x).1) (broadcastInDim S10000x16 ![] bcast_S_S10000x16 (constant S_ .f32 0x00000000#32)))

/-- The root of the greater of two arrays, at one place. -/
theorem root_apply {s : Shape} (v w : FVec Ideal s .f32) (j : s.Idx) :
    Host.sqrt (maximumf (Host.negf v) w) j = Ideal.sqrt (max (-(v j : EReal)) (w j)) := rfl

/-- The distance of a rank, cut at 0, and its root. -/
theorem refOut_apply (p : Fin 10000) (r : Fin 16) :
    refOut x (ix2 p r) = Ideal.sqrt (max (refDist x (ix2 p (near x p (r.castLE (by omega)))) : EReal) (Ideal.ofBits .f32 0x00000000#32)) := by
  unfold refOut
  refine (root_apply _ _ _).trans ?_
  rw [refTop_value, neg_neg]
  rfl

/-- and its row numbers. -/
def refRows : IVec S10000x16 32 := broadcastInDim S10000x16 ![0] bcast_S10000_S10000x16_0 (iotaInDim S10000 32 0)

/-- A row's number in each of its columns. -/
theorem refRows_apply (p : Fin 10000) (r : Fin 16) : refRows (ix2 p r) = BitVec.ofNat 32 p.val := rfl

/-- A matrix of sixteen columns read row by row. -/
def flat {α : Type} (v : S10000x16.Idx → α) : S160000.Idx → α := shapeCast S160000 v shapeCasts_S10000x16_S160000

/-- The reference's run. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = flat (refTop (m ((c.tc : Thread nD τ).loc main_arg0))).2
      ∧ r.2.mem ((c.tc : Thread nD τ).loc main_v16) = flat refRows
      ∧ r.2.mem ((c.tc : Thread nD τ).loc main_arg1) = m ((c.tc : Thread nD τ).loc main_arg1)
      ∧ r.2.mem ((c.tc : Thread nD τ).loc main_v20) = refOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.Knn

end
-- ==== Proof.Knn.Mask.lean ====
/- What the mask of the first result says: the distance of that rank is told apart from the ones beside it. -/
module

public import proofs.«01_k».proof.Proof.Gen.On_told_apart
public import proofs.«01_k».proof.Proof.Knn.Ref

@[expose] public section

noncomputable section

namespace Cert.Knn

open Idealize.ShloMosaic Cert.On_told_apart Cert.On_told_apart.Gen

variable (x : FVec Ideal S10000x3 .f32)

/-- The seventeen greatest of the negated distances. -/
def top17 : FVec Ideal S10000x17 .f32 :=
  (Host.topK S10000x17 1 (FloatOps.cmpfTotal .gt) (Host.negf (refDist x)) sliceFits_S10000x10000_S10000x17).1

/-- The value of a rank is minus the distance of that rank. -/
theorem top17_apply (p : Fin 10000) (k : Fin 17) : top17 x (ix2 p k) = -(refDist x (ix2 p (near x p (k.castLE (by omega)))) : EReal) :=
  (topK_apply (n := 10000) (K := 17) (by omega) (Host.negf (refDist x)) sliceFits_S10000x10000_S10000x17 p k).1

/-- Where a rank's value is greater than the next one's. -/
def gaps : IVec S10000x16 1 :=
  cmpf .ogt (extractStridedSlice S10000x16 ![0, 0] (top17 x) slices_S10000x17_S10000x16_0_0)
    (extractStridedSlice S10000x16 ![0, 1] (top17 x) slices_S10000x17_S10000x16_0_1)

/-- The same for the rank before, with nothing before the first. -/
def gapsBefore : IVec S10000x16 1 :=
  concatenate S10000x16 1 [⟨S10000x1, broadcastInDim S10000x1 ![] bcast_S_S10000x1 (constantI S_ 1 1#1)⟩,
    ⟨S10000x15, extractStridedSlice S10000x15 ![0, 0] (gaps x) slices_S10000x16_S10000x15_0_0⟩] concatenates_S10000x1_S10000x15_S10000x16_d1

/-- The mask of the first result, in these words. -/
theorem mask_eq (z : IVec S10000 32) : (fn (F := Ideal) x z).1 = flat (andi (gaps x) (gapsBefore x)) := rfl

/-- Two bits whose conjunction is 1 are both 1. -/
theorem both_one : ∀ a b : BitVec 1, a &&& b = 1#1 → a = 1#1 ∧ b = 1#1 := by decide

/-- The comparison's bit is 1 only where the first is the greater. -/
theorem lt_of_cmp (a b : EReal) (h : Ideal.cmp .ogt a b = 1#1) : b < a :=
  of_decide_eq_true ((cmp_ogt a b).symm.trans (by rw [h]; rfl))

/-- A comparison of arrays compares their entries. -/
theorem greater_apply {s : Shape} (v w : FVec Ideal s .f32) (j : s.Idx) : cmpf .ogt v w j = Ideal.cmp .ogt (v j) (w j) := rfl

/-- A conjunction of arrays is that of their entries. -/
theorem and_apply {s : Shape} (v w : IVec s 1) (j : s.Idx) : andi v w j = v j &&& w j := rfl

/-- A gap is a strictly greater distance at the next rank. -/
theorem gap_lt (p : Fin 10000) (r : Fin 16) (h : gaps x (ix2 p r) = 1#1) :
    refDist x (ix2 p (near x p ⟨r.val, by omega⟩)) < refDist x (ix2 p (near x p ⟨r.val + 1, by omega⟩)) := by
  have e0 : extractStridedSlice S10000x16 ![0, 0] (top17 x) slices_S10000x17_S10000x16_0_0 (ix2 p r) = top17 x (ix2 p (r.castLE (by omega))) :=
    congrArg (top17 x) (funext fun a => match a with
      | ⟨0, _⟩ => Fin.ext (Nat.zero_add _)
      | ⟨1, _⟩ => Fin.ext (Nat.zero_add _))
  have e1 : extractStridedSlice S10000x16 ![0, 1] (top17 x) slices_S10000x17_S10000x16_0_1 (ix2 p r) = top17 x (ix2 p (⟨r.val + 1, by omega⟩ : Fin 17)) :=
    congrArg (top17 x) (funext fun a => match a with
      | ⟨0, _⟩ => Fin.ext (Nat.zero_add _)
      | ⟨1, _⟩ => Fin.ext (Nat.add_comm _ _))
  unfold gaps at h
  rw [greater_apply, e0, e1, top17_apply, top17_apply] at h
  exact EReal.neg_lt_neg_iff.mp (lt_of_cmp _ _ h)

/-- From the second rank on it is the gap of the rank before. -/
theorem gapsBefore_apply (p : Fin 10000) (r : Fin 16) (h : 0 < r.val) : gapsBefore x (ix2 p r) = gaps x (ix2 p (⟨r.val - 1, by omega⟩ : Fin 16)) := by
  refine (concatenate_pair_apply_right (s₁ := S10000x1) (s₂ := S10000x15) (t := S10000x16) 1 _ _ _ (ix2 p r) rfl rfl
    (ix2 p (⟨r.val - 1, by omega⟩ : Fin 15)) (fun b hb => ?_) ?_).trans ?_
  · match b with
    | ⟨0, _⟩ => rfl
    | ⟨1, _⟩ => exact absurd rfl hb
  · show r.val - 1 + 1 = r.val
    omega
  · exact congrArg (gaps x) (funext fun a => match a with
      | ⟨0, _⟩ => Fin.ext (Nat.zero_add _)
      | ⟨1, _⟩ => Fin.ext (Nat.zero_add _))

/-- Where the mask is set the rank's distance is less than the next one's and greater than the one's before. -/
theorem told_apart (p : Fin 10000) (r : Fin 16) (h : andi (gaps x) (gapsBefore x) (ix2 p r) = 1#1) :
    refDist x (ix2 p (near x p ⟨r.val, by omega⟩)) < refDist x (ix2 p (near x p ⟨r.val + 1, by omega⟩))
      ∧ ∀ _ : 0 < r.val, refDist x (ix2 p (near x p ⟨r.val - 1, by omega⟩)) < refDist x (ix2 p (near x p ⟨r.val, by omega⟩)) := by
  obtain ⟨h1, h2⟩ := both_one _ _ ((and_apply _ _ _).symm.trans h)
  refine ⟨gap_lt x p r h1, fun hr => ?_⟩
  rw [gapsBefore_apply x p r hr] at h2
  have e := gap_lt x p _ h2
  have e' : (⟨r.val - 1 + 1, by omega⟩ : Fin 10000) = ⟨r.val, by omega⟩ := Fin.ext (by show r.val - 1 + 1 = r.val; omega)
  rw [e'] at e
  exact e

end Cert.Knn

end
-- ==== Proof.Knn.Result.lean ====
/- The kernel's results at one place, against the reference's. -/
module

public import proofs.«01_k».proof.Proof.Knn.Arrays
public import proofs.«01_k».proof.Proof.Knn.Near
public import proofs.«01_k».proof.Proof.Knn.Agree
public import proofs.«01_k».proof.Proof.Knn.Mask

@[expose] public section

noncomputable section

namespace Cert.Knn

open Idealize.ShloMosaic Idealize.ShloMosaic.TcCoe Cert.KernelIdeal Cert.KernelIdeal.Gen

variable (m : (ℓ : Loc nD τ sig) → Buf (Elt Ideal) ℓ) (c : Dev nD)

/-- The points. -/
abbrev pts : FVec Ideal S10000x3 .f32 := m ((c : Thread nD τ).loc main_arg0)

/-- The query of a row is its point. -/
theorem query_inside (t : Fin cfg0.N) (i : Fin 256) (p : Fin 10000) (hp : (place t i).val = p.val) (e : Fin 3) :
    iblk m c 0 t (ix2 (n0 := 256) (n1 := 128) i (e.castLE (by omega))) = pts m c (ix2 p e) :=
  (block_queries m c t i _).trans (queries_inside _ _ _ p e hp.symm rfl)

/-- The kernel's row of distances at a point: the reference's distance. -/
theorem tile_inside (t : Fin cfg0.N) (i : Fin 256) (p : Fin 10000) (hp : (place t i).val = p.val) (q : Fin 10000) :
    tile m c t (ix2 i (q.castLE (by omega) : Fin 10240)) = refDist (pts m c) (ix2 p q) := by
  rw [refDist_apply]
  unfold tile rows
  exact (rowOf_apply ..).trans (near_inside (fun e => pts m c (ix2 p e)) (fun e => pts m c (ix2 q e)) _ q.isLt
    (fun k => iblk m c 0 t (ix2 (n0 := 256) (n1 := 128) i k)) (fun k => iblk m c 1 t (ix2 (n0 := 128) (n1 := 10240) k (q.castLE (by omega))))
    (query_inside m c t i p hp)
    (fun e => (block_keys m c t _ _).trans (keys_inside _ _ _ q e rfl rfl))
    (fun e he => (block_queries m c t i e).trans ((queries_outside _ _ _ he).trans Ideal.ofBits_zero_f32)))

/-- At the padding it is ⊤. -/
theorem tile_outside (t : Fin cfg0.N) (i : Fin 256) (p : Fin 10000) (hp : (place t i).val = p.val) (j : Fin 10240) (hj : 10000 ≤ j.val) :
    tile m c t (ix2 i j) = (⊤ : EReal) := by
  unfold tile rows
  exact (rowOf_apply ..).trans (near_outside (fun e => pts m c (ix2 p e)) j hj
    (fun k => iblk m c 0 t (ix2 (n0 := 256) (n1 := 128) i k)) (fun k => iblk m c 1 t (ix2 (n0 := 128) (n1 := 10240) k j)) _
    (query_inside m c t i p hp)
    (fun e => (block_keys m c t e j).trans ((keys_outside _ _ _ (.inr hj)).trans Ideal.ofBits_zero_f32)))

/-- The value of a round: the distance of that rank. -/
theorem round_value (t : Fin cfg0.N) (i : Fin 256) (p : Fin 10000) (hp : (place t i).val = p.val) (r : Fin 16) :
    rowMin (round (tile m c t) r.val) (ix2 i (0 : Fin 1)) = refDist (pts m c) (ix2 p (near (pts m c) p (r.castLE (by omega)))) :=
  agree_value (N := 10000) (M := 10240) (by omega) (fun q => refDist (pts m c) (ix2 p q)) (fun j => tile m c t (ix2 i j))
    (tile_inside m c t i p hp) (tile_outside m c t i p hp) (near (pts m c) p) (near_bijective _ p) (near_monotone _ p) (r.castLE (by omega)) _
    fun s => row_rank (tile m c t) i r.val r.isLt s

/-- The number of a round, where the distance of that rank is told apart: the point of that rank. -/
theorem round_number (t : Fin cfg0.N) (i : Fin 256) (p : Fin 10000) (hp : (place t i).val = p.val) (r : Fin 16)
    (h : andi (gaps (pts m c)) (gapsBefore (pts m c)) (ix2 p r) = 1#1) :
    rowNum (round (tile m c t) r.val) (ix2 i (0 : Fin 1)) = BitVec.ofNat 32 (near (pts m c) p (r.castLE (by omega))).val := by
  obtain ⟨after, before⟩ := told_apart (pts m c) p r h
  obtain ⟨j, hj, e⟩ := row_col (tile m c t) i r.val r.isLt
  rw [round_value m c t i p hp r] at hj
  rw [e]
  exact congrArg (BitVec.ofNat 32) (agree_col (N := 10000) (M := 10240) (by omega) (fun q => refDist (pts m c) (ix2 p q)) (fun j => tile m c t (ix2 i j))
    (tile_inside m c t i p hp) (tile_outside m c t i p hp) (near (pts m c) p) (near_bijective _ p) (near_monotone _ p) r.val (by omega) j hj
    after before)

/-- A row below 10000 of an output stands in the block of a point. -/
theorem head_glue {α : Type} (f : Fin cfg0.N → S256x16.Idx → α) (p : Fin 10000) (r : Fin 16) :
    ∃ (t : Fin cfg0.N) (i : Fin 256), (place t i).val = p.val ∧ head α (glue f) (ix2 p r) = f t (ix2 i r) := by
  have hp := p.isLt
  have ht : p.val / 256 < cfg0.N := by show _ < grid0.N; rw [N_0]; omega
  refine ⟨⟨p.val / 256, ht⟩, ⟨p.val % 256, by omega⟩, by show p.val / 256 * 256 + p.val % 256 = p.val; omega, ?_⟩
  have e : head α (glue f) (ix2 p r) = glue f (ix2 (place ⟨p.val / 256, ht⟩ ⟨p.val % 256, by omega⟩) r) := by
    unfold head
    refine congrArg (glue f) (funext fun a => ?_)
    match a with
    | ⟨0, _⟩ => exact Fin.ext (by show 0 + p.val = p.val / 256 * 256 + p.val % 256; omega)
    | ⟨1, _⟩ => exact Fin.ext (Nat.zero_add _)
  exact e.trans (glue_place f _ _ r)

/-- An index is the pair of its coordinates. -/
theorem ix2_of (j : S10000x16.Idx) : ∃ (p : Fin 10000) (r : Fin 16), j = ix2 p r :=
  ⟨j 0, j 1, funext fun a => match a with | ⟨0, _⟩ => rfl | ⟨1, _⟩ => rfl⟩

/-- The numbers agree where the mask is set, -/
theorem numbers_eq (j : S10000x16.Idx) (h : andi (gaps (pts m c)) (gapsBefore (pts m c)) j = 1#1) :
    head _ (glue fun t => numTile (tile m c t)) j = (refTop (pts m c)).2 j := by
  obtain ⟨p, r, rfl⟩ := ix2_of j
  obtain ⟨t, i, hp, e⟩ := head_glue (fun t => numTile (tile m c t)) p r
  exact e.trans ((numTile_apply _ i r).trans ((round_number m c t i p hp r h).trans (refTop_col _ p r).symm))

/-- the row numbers everywhere, -/
theorem rows_eq (j : S10000x16.Idx) : head _ (glue fun t : Fin cfg0.N => k0_pay1 (BitVec.ofNat 32 t.val)) j = refRows j := by
  obtain ⟨p, r, rfl⟩ := ix2_of j
  obtain ⟨t, i, hp, e⟩ := head_glue (fun t => k0_pay1 (BitVec.ofNat 32 t.val)) p r
  exact e.trans ((row_apply t.val i r).trans (congrArg (BitVec.ofNat 32) hp))

/-- and so do the distances. -/
theorem distances_eq (j : S10000x16.Idx) : head _ (glue fun t => distTile (tile m c t)) j = refOut (pts m c) j := by
  obtain ⟨p, r, rfl⟩ := ix2_of j
  obtain ⟨t, i, hp, e⟩ := head_glue (fun t => distTile (tile m c t)) p r
  refine e.trans ((distTile_apply _ i r).trans ?_)
  rw [valTile_apply, round_value m c t i p hp r]
  exact (refOut_apply _ p r).symm

end Cert.Knn

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.On_told_apart
public import proofs.«01_k».proof.Proof.Knn.Result

@[expose] public section

open Idealize.ShloMosaic Idealize.ShloMosaic.TcCoe Idealize.SL.Sem

namespace Cert.Proof

/-- The reference runs to its end, leaves its arguments as they were, and leaves no semaphore raised. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- From memories that agree on the arguments, the kernel and the reference end with the same numbers where the mask is
    set, and with the same row numbers, atomic numbers and distances everywhere. -/
theorem algebraic : Cert.algebraic_KernelIdeal_ReferenceIdeal_on_told_apart (hKernelIdeal := Cert.KernelIdeal.Gen.facts)
    (hReferenceIdeal := Cert.ReferenceIdeal.Gen.facts) (hOn_told_apart := Cert.On_told_apart.Gen.facts) := by
  intro m g m' g' _ same
  refine ⟨fun c => Cert.Knn.flat (Cert.Knn.refTop (Cert.Knn.pts m c)).2, fun _ => Cert.Knn.flat Cert.Knn.refRows,
    fun c => m ((c : Thread Cert.KernelIdeal.nD Cert.KernelIdeal.τ).loc Cert.KernelIdeal.main_arg1),
    fun c => Cert.Knn.refOut (Cert.Knn.pts m c), ?_, ?_⟩
  · refine (θ_run Cert.KernelIdeal.defs _ _).mono (fun r h c => ?_) (Cert.Knn.kernel_run m g)
    obtain ⟨numbers, rows, distances, arg0, arg1⟩ := h c
    refine ⟨fun i hi => ?_, fun i _ => ?_, fun i _ => congrFun arg1 i, fun i _ => ?_, arg0, arg1⟩
    · rw [Cert.Knn.mask_eq] at hi
      exact (congrFun numbers i).trans (Cert.Knn.numbers_eq m c _ hi)
    · exact (congrFun rows i).trans (Cert.Knn.rows_eq _)
    · exact (congrFun distances i).trans (Cert.Knn.distances_eq m c i)
  · refine (θ_run Cert.ReferenceIdeal.defs _ _).mono (fun r h c => ?_) (Cert.Knn.reference_run m' g')
    obtain ⟨numbers, rows, z, distances, arg0, arg1⟩ := h c
    obtain ⟨s0, s1⟩ := same c
    rw [s0] at numbers distances
    exact ⟨fun i _ => congrFun numbers i, fun i _ => congrFun rows i, fun i _ => congrFun (z.trans s1) i, fun i _ => congrFun distances i, arg0, arg1⟩

theorem claim : Cert.Claim :=
  ⟨Cert.Kernel.Gen.facts, Cert.KernelIdeal.Gen.facts, Cert.ReferenceIdeal.Gen.facts, Cert.On_told_apart.Gen.facts,
    fun m ρ _ => Cert.Kernel.Gen.frame m ρ, fun m ρ _ => Cert.KernelIdeal.Gen.frame m ρ, frame_reference, trivial, algebraic⟩

end Cert.Proof

end
